-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S_ : Shape := ⟨0, ![]⟩

class Facts : Prop where
  bcast_S_S4x2048x4096 : S_.BroadcastsInDim S4x2048x4096 (![] : Fin 0 → Fin S4x2048x4096.rank)
  bcast_S_S4096x4096 : S_.BroadcastsInDim S4096x4096 (![] : Fin 0 → Fin S4096x4096.rank)
  bcast_S_S4096 : S_.BroadcastsInDim S4096 (![] : Fin 0 → Fin S4096.rank)
  bcast_S_S64x4096 : S_.BroadcastsInDim S64x4096 (![] : Fin 0 → Fin S64x4096.rank)
  bcast_S_S64 : S_.BroadcastsInDim S64 (![] : Fin 0 → Fin S64.rank)

variable [Facts]

def fn {F : FTy → Type} [FloatOps F] (main_arg0 : FVec F S4x2048x4096 .f32) (main_arg1 : FVec F S4096x4096 .f32) (main_arg2 : FVec F S4096 .f32) (main_arg3 : FVec F S64x4096 .f32) (main_arg4 : FVec F S64 .f32) : IVec S4x2048x4096 1 × IVec S4096x4096 1 × IVec S4096 1 × IVec S64x4096 1 × IVec S64 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S64x4096 .f32 := Host.absf main_arg3
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S8192x4096 : Shape := ⟨2, ![8192, 4096]⟩
abbrev S1x4096 : Shape := ⟨2, ![1, 4096]⟩
abbrev S64x1 : Shape := ⟨2, ![64, 1]⟩
abbrev S64x8192 : Shape := ⟨2, ![64, 8192]⟩
abbrev S8x8192 : Shape := ⟨2, ![8, 8192]⟩
abbrev S512x4096 : Shape := ⟨2, ![512, 4096]⟩
abbrev S1x512 : Shape := ⟨2, ![1, 512]⟩
abbrev S64x512 : Shape := ⟨2, ![64, 512]⟩
abbrev S64x2048 : Shape := ⟨2, ![64, 2048]⟩
abbrev S8x2048 : Shape := ⟨2, ![8, 2048]⟩
abbrev S2048x4096 : Shape := ⟨2, ![2048, 4096]⟩
abbrev S4 : Shape := ⟨1, ![4]⟩
abbrev S1 : Shape := ⟨1, ![1]⟩
abbrev S_ : Shape := ⟨0, ![]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S1x2048 : Shape := ⟨2, ![1, 2048]⟩
abbrev S8192x64 : Shape := ⟨2, ![8192, 64]⟩
abbrev S4x2048x64 : Shape := ⟨3, ![4, 2048, 64]⟩
abbrev S8192x8 : Shape := ⟨2, ![8192, 8]⟩
abbrev S4x2048x8 : Shape := ⟨3, ![4, 2048, 8]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S8192x4096, .f32⟩
  | .hbm, ⟨6, _⟩ => ⟨S1x4096, .f32⟩
  | .hbm, ⟨7, _⟩ => ⟨S64x1, .f32⟩
  | .hbm, ⟨8, _⟩ => ⟨S64x8192, .f32⟩
  | .hbm, ⟨9, _⟩ => ⟨S8x8192, .i32⟩
  | .hbm, ⟨10, _⟩ => ⟨S8x8192, .f32⟩
  | .hbm, ⟨11, _⟩ => ⟨S8192x64, .f32⟩
  | .hbm, ⟨12, _⟩ => ⟨S4x2048x64, .f32⟩
  | .hbm, ⟨13, _⟩ => ⟨S8192x8, .i32⟩
  | .hbm, ⟨14, _⟩ => ⟨S4x2048x8, .i32⟩
  | .hbm, ⟨15, _⟩ => ⟨S8192x8, .f32⟩
  | .hbm, ⟨16, _⟩ => ⟨S4x2048x8, .f32⟩
  | .local _ .vmem, ⟨0, _⟩ => ⟨S512x4096, .f32⟩
  | .local _ .vmem, ⟨1, _⟩ => ⟨S512x4096, .f32⟩
  | .local _ .vmem, ⟨2, _⟩ => ⟨S1x512, .f32⟩
  | .local _ .vmem, ⟨3, _⟩ => ⟨S1x512, .f32⟩
  | .local _ .vmem, ⟨4, _⟩ => ⟨S64x512, .f32⟩
  | .local _ .vmem, ⟨5, _⟩ => ⟨S64x512, .f32⟩
  | .local _ .vmem, ⟨6, _⟩ => ⟨S64x1, .f32⟩
  | .local _ .vmem, ⟨7, _⟩ => ⟨S64x2048, .f32⟩
  | .local _ .vmem, ⟨8, _⟩ => ⟨S64x2048, .f32⟩
  | .local _ .vmem, ⟨9, _⟩ => ⟨S8x2048, .i32⟩
  | .local _ .vmem, ⟨10, _⟩ => ⟨S8x2048, .i32⟩
  | .local _ .vmem, ⟨11, _⟩ => ⟨S8x2048, .f32⟩
  | .local _ .vmem, ⟨12, _⟩ => ⟨S8x2048, .f32⟩
  | .local _ .vmem, ⟨13, _⟩ => ⟨S2048x4096, .f32⟩
  | .local _ .vmem, ⟨14, _⟩ => ⟨S64x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_4 : BitVec 32) : Fin 2 → Nat :=
  let arg0 : BitVec 32 := BitVec.ofNat 32 (i 0).val
  let c2048_i32 : BitVec 32 := 2048#32
  let v9 : BitVec 32 := Scalar.muli arg0 c2048_i32
  let v10 : BitVec 32 := Scalar.addi v9 c0_i32_4
  let c0_i32_8 : BitVec 32 := 0#32
  ![v10.toNat, 0]
def k0_cond3 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S1x1x4096 : Shape := ⟨3, ![1, 1, 4096]⟩
abbrev S_ : Shape := ⟨0, ![]⟩
abbrev S4096x64 : Shape := ⟨2, ![4096, 64]⟩
abbrev S4x2048x64 : Shape := ⟨3, ![4, 2048, 64]⟩
abbrev S1x1x64 : Shape := ⟨3, ![1, 1, 64]⟩
abbrev S4x2048 : Shape := ⟨2, ![4, 2048]⟩
abbrev S4x2048x1 : Shape := ⟨3, ![4, 2048, 1]⟩
abbrev S4x2048x8 : Shape := ⟨3, ![4, 2048, 8]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S4096x64, .f32⟩
  | .hbm, ⟨14, _⟩ => ⟨S4x2048x64, .f32⟩
  | .hbm, ⟨15, _⟩ => ⟨S1x1x64, .f32⟩
  | .hbm, ⟨16, _⟩ => ⟨S4x2048x64, .f32⟩
  | .hbm, ⟨17, _⟩ => ⟨S4x2048x64, .f32⟩
  | .hbm, ⟨18, _⟩ => ⟨S_, .f32⟩
  | .hbm, ⟨19, _⟩ => ⟨S4x2048x64, .f32⟩
  | .hbm, ⟨20, _⟩ => ⟨S4x2048x64, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048x1, .f32⟩
  | .hbm, ⟨27, _⟩ => ⟨S4x2048x64, .f32⟩
  | .hbm, ⟨28, _⟩ => ⟨S4x2048x64, .f32⟩
  | .hbm, ⟨29, _⟩ => ⟨S4x2048x64, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S4x2048x64, .f32⟩
  | .hbm, ⟨34, _⟩ => ⟨S4x2048x64, .f32⟩
  | .hbm, ⟨35, _⟩ => ⟨S4x2048x8, .f32⟩
  | .hbm, ⟨36, _⟩ => ⟨S4x2048x8, .i32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x8, .f32⟩
  | .hbm, ⟨41, _⟩ => ⟨S4x2048x8, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.ReferenceFrame.lean ====
/-
  THE REFERENCE RUNS. The reference is host operations only: it has no semaphores, so nothing is left counted when it ends.
-/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-- The reference terminates, leaves its five arguments as they were, and ends with every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2, sem_eq_zero_of_no_sems rfl r.2⟩) (Cert.ReferenceIdeal.Value.run m ρ)

end Cert.Proof

end
-- ==== Proof.Selection.lean ====
/-
  SELECTING THE EIGHT GREATEST OF A COLUMN.
  The kernel picks by rounds: a round takes the maximum of the column, the least position that attains it, and
  replaces the entry there by −∞. The reference sorts the column, greater first and equal entries in order of
  position, and takes the first eight. On a column with no −∞ the two agree, which this module proves.
-/
module

public import Idealize.ShloMosaic.PureOps.Ideal
public import Idealize.ShloMosaic.PureOps.Ideal.Laws
public import Idealize.ShloMosaic.Lib.SortPrefix

@[expose] public section

set_option maxRecDepth 16384

noncomputable section

namespace Cert.Router

open Idealize.ShloMosaic

/-- One token's scores, one for each of the 64 experts. -/
abbrev Column := Fin 64 → EReal

/-- The greatest entry of a column. -/
def greatest (v : Column) : EReal := (Finset.univ : Finset (Fin 64)).fold max ⊥ v

/-- The least position attaining the maximum, as a natural number (positions that do not attain it count as 64). -/
def leastNat (v : Column) : ℕ := (Finset.univ : Finset (Fin 64)).fold min 2147483647 fun e => if v e = greatest v then e.val else 64

/-- Some entry attains the maximum. -/
theorem exists_eq_greatest (v : Column) : ∃ e, v e = greatest v := by
  by_contra h
  have hlt : ∀ e, v e < greatest v := fun e =>
    lt_of_le_of_ne ((Finset.fold_max_le (s := (Finset.univ : Finset (Fin 64))) (f := v) (b := ⊥) (c := greatest v)).mp le_rfl |>.2 e (Finset.mem_univ e))
      fun he => h ⟨e, he⟩
  have : greatest v < greatest v := by
    conv_lhs => unfold greatest
    refine (Finset.fold_max_lt (greatest v)).mpr ⟨?_, fun e _ => hlt e⟩
    exact lt_of_le_of_lt bot_le (hlt 0)
  exact lt_irrefl _ this

/-- No entry exceeds the maximum. -/
theorem le_greatest (v : Column) (e : Fin 64) : v e ≤ greatest v :=
  ((Finset.fold_max_le (s := (Finset.univ : Finset (Fin 64))) (f := v) (b := ⊥) (greatest v)).mp le_rfl).2 e (Finset.mem_univ e)

/-- The least position is a position, attains the maximum, and no lower one does. -/
theorem leastNat_spec (v : Column) : ∃ p : Fin 64, leastNat v = p.val ∧ v p = greatest v ∧ ∀ q, v q = greatest v → p ≤ q := by
  obtain ⟨e, he⟩ := exists_eq_greatest v
  have hle : ∀ q : Fin 64, v q = greatest v → leastNat v ≤ q.val := fun q hq => by
    have := ((Finset.le_fold_min (s := (Finset.univ : Finset (Fin 64))) (f := fun e => if v e = greatest v then e.val else 64) (b := 2147483647) (leastNat v)).mp le_rfl).2 q (Finset.mem_univ q)
    rwa [if_pos hq] at this
  have hmem : ∃ q : Fin 64, (if v q = greatest v then q.val else 64) ≤ leastNat v := by
    have := (Finset.fold_min_le (s := (Finset.univ : Finset (Fin 64))) (f := fun e => if v e = greatest v then e.val else 64) (b := 2147483647) (leastNat v)).mp le_rfl
    rcases this with h | ⟨q, _, h⟩
    · exfalso; have := hle e he; have := e.isLt; omega
    · exact ⟨q, h⟩
  obtain ⟨q, hq⟩ := hmem
  have h64 := hle e he
  have := e.isLt
  by_cases hv : v q = greatest v
  · rw [if_pos hv] at hq
    exact ⟨q, le_antisymm (hle q hv) hq, hv, fun r hr => Fin.le_def.mpr (hq.trans (hle r hr))⟩
  · rw [if_neg hv] at hq; omega

/-- The position a round picks: the least one attaining the maximum. -/
def pick (v : Column) : Fin 64 := (leastNat_spec v).choose

theorem leastNat_eq_pick (v : Column) : leastNat v = (pick v).val := (leastNat_spec v).choose_spec.1

/-- The picked entry is the maximum. -/
theorem apply_pick (v : Column) : v (pick v) = greatest v := (leastNat_spec v).choose_spec.2.1

/-- The picked position is the lowest that attains the maximum. -/
theorem pick_le (v : Column) (q : Fin 64) (h : v q = greatest v) : pick v ≤ q := (leastNat_spec v).choose_spec.2.2 q h

/-- What a round leaves: the column with its picked entry replaced by −∞. -/
def without (v : Column) : Column := fun e => if e = pick v then ⊥ else v e

/-- The column before round `r`, counting rounds from zero. -/
def remaining (v : Column) : ℕ → Column
  | 0 => v
  | r + 1 => without (remaining v r)

/-- The position that round `r` picks. -/
def chosen (v : Column) (r : ℕ) : Fin 64 := pick (remaining v r)

/-- A column with no −∞ keeps, before round `r`, exactly the entries that the rounds before did not pick. -/
theorem remaining_apply (v : Column) : ∀ (r : ℕ) (e : Fin 64),
    remaining v r e = if ∃ s, s < r ∧ chosen v s = e then ⊥ else v e
  | 0, e => by simp [remaining]
  | r + 1, e => by
    have ih := remaining_apply v r e
    show (if e = chosen v r then ⊥ else remaining v r e) = _
    by_cases h : e = chosen v r
    · rw [if_pos h, if_pos ⟨r, Nat.lt_succ_self r, h.symm⟩]
    · rw [if_neg h, ih]
      refine if_congr ⟨fun ⟨s, hs, he⟩ => ⟨s, by omega, he⟩, fun ⟨s, hs, he⟩ => ⟨s, ?_, he⟩⟩ rfl rfl
      rcases Nat.lt_succ_iff_lt_or_eq.mp hs with h' | rfl
      · exact h'
      · exact absurd he.symm h

/-- While fewer than 64 rounds have passed, some position is still unpicked. -/
theorem exists_unpicked (v : Column) (r : ℕ) (hr : r < 64) : ∃ e, ∀ s, s < r → chosen v s ≠ e := by
  by_contra h
  push Not at h
  have hsub : (Finset.univ : Finset (Fin 64)) ⊆ (Finset.range r).image (chosen v) := fun e _ => by
    obtain ⟨s, hs, he⟩ := h e
    exact Finset.mem_image.mpr ⟨s, Finset.mem_range.mpr hs, he⟩
  have := (Finset.card_le_card hsub).trans Finset.card_image_le
  rw [Finset.card_univ, Fintype.card_fin, Finset.card_range] at this
  omega

/-- On a column with no −∞, round `r` (of fewer than 64) picks a position that no earlier round picked. -/
theorem chosen_fresh (v : Column) (hv : ∀ e, ⊥ < v e) (r : ℕ) (hr : r < 64) (s : ℕ) (hs : s < r) : chosen v s ≠ chosen v r := by
  intro h
  obtain ⟨e, he⟩ := exists_unpicked v r hr
  have h1 : remaining v r (chosen v r) = ⊥ := by rw [remaining_apply, if_pos ⟨s, hs, h⟩]
  have h2 : remaining v r e = v e := by rw [remaining_apply, if_neg (fun ⟨s, hs, h⟩ => he s hs h)]
  have h3 : remaining v r e ≤ remaining v r (chosen v r) := by
    rw [show remaining v r (chosen v r) = _ from apply_pick _]; exact le_greatest _ e
  rw [h1, h2] at h3
  exact absurd (hv e) (not_lt.mpr h3)

/-- On such a column the maximum of round `r` is the original entry at the position it picks. -/
theorem greatest_remaining (v : Column) (hv : ∀ e, ⊥ < v e) (r : ℕ) (hr : r < 64) : greatest (remaining v r) = v (chosen v r) := by
  rw [← apply_pick, show pick (remaining v r) = chosen v r from rfl, remaining_apply,
    if_neg (fun ⟨s, hs, h⟩ => chosen_fresh v hv r hr s hs h)]

/-- An entry that no earlier round picked does not exceed what round `r` picks, and ties only from a higher position. -/
theorem unpicked_le (v : Column) (hv : ∀ e, ⊥ < v e) (r : ℕ) (hr : r < 64) (e : Fin 64) (he : ∀ s, s < r → chosen v s ≠ e) :
    v e < v (chosen v r) ∨ (v e = v (chosen v r) ∧ chosen v r ≤ e) := by
  have h2 : remaining v r e = v e := by rw [remaining_apply, if_neg (fun ⟨s, hs, h⟩ => he s hs h)]
  have hle := le_greatest (remaining v r) e
  rw [h2, greatest_remaining v hv r hr] at hle
  rcases lt_or_eq_of_le hle with h | h
  · exact Or.inl h
  · exact Or.inr ⟨h, pick_le _ e (by rw [h2, greatest_remaining v hv r hr, h])⟩

/-! ## The sort -/

/-- Position `p` comes before position `q`: its entry is greater, or equal at a lower position. -/
def precedes (v : Column) (p q : Fin 64) : Bool := decide (v q < v p) || (decide (v p = v q) && decide (p < q))

/-- `precedes` is a strict total order of the positions. -/
theorem precedes_total (v : Column) : StrictTotalBefore (precedes v) :=
  StrictTotalBefore.of_key_then_position (fun a b => decide (b < a)) v (fun a => by simp)
    (fun a b c h h' => by simp only [decide_eq_true_eq] at h h' ⊢; exact lt_trans h' h)
    (fun a b => by simp only [decide_eq_true_eq]; rcases lt_trichotomy a b with h | h | h <;> simp [h])

/-- Inserting a position before a list of later ones: comparing entries alone or with ties broken by position is the same. -/
theorem insertBefore_precedes (v : Column) (a : Fin 64) : ∀ l : List (Fin 64), (∀ b ∈ l, a < b) →
    insertBefore (fun p q => decide (v q < v p)) a l = insertBefore (precedes v) a l
  | [], _ => rfl
  | b :: l, h => by
    have hab := h b List.mem_cons_self
    have e : precedes v b a = decide (v a < v b) := by
      unfold precedes
      rw [decide_eq_false (not_lt.mpr hab.le : ¬ b < a), Bool.and_false, Bool.or_false]
    unfold insertBefore
    rw [e, insertBefore_precedes v a l fun c hc => h c (List.mem_cons_of_mem _ hc)]

/-- Sorting positions listed in order: comparing entries alone or with ties broken by position is the same. -/
theorem stableSort_precedes (v : Column) : ∀ l : List (Fin 64), l.Pairwise (· < ·) →
    stableSort (fun p q => decide (v q < v p)) l = stableSort (precedes v) l
  | [], _ => rfl
  | a :: l, h => by
    rw [List.pairwise_cons] at h
    unfold stableSort
    rw [stableSort_precedes v l h.2]
    exact insertBefore_precedes v a _ fun b hb => h.1 b ((perm_stableSort _ l).mem_iff.mp hb)

/-- The reference's sort, greater first, puts at place `r` below eight the position that round `r` picks. -/
theorem sortedFrom_eq_chosen (v : Column) (hv : ∀ e, ⊥ < v e) (r : Fin 8) :
    sortedFrom (fun p q : Fin 64 => decide (v q < v p)) (r.castLE (by decide)) = chosen v r.val := by
  have hs : sortPositions 64 (fun p q : Fin 64 => decide (v q < v p)) = sortPositions 64 (precedes v) :=
    stableSort_precedes v _ (List.pairwise_lt_finRange 64)
  have hf : sortedFrom (fun p q : Fin 64 => decide (v q < v p)) = sortedFrom (precedes v) := by
    funext k; exact List.getElem_of_eq hs _
  rw [hf]
  have notPrec : ∀ (r : ℕ) (hr : r < 64) (e : Fin 64), (∀ s, s < r → chosen v s ≠ e) → precedes v e (chosen v r) = false := by
    intro r hr e he
    unfold precedes
    rcases unpicked_le v hv r hr e he with h | ⟨h, h'⟩
    · simp [not_lt.mpr h.le, h.ne]
    · simp [h, not_lt.mpr h']
  refine (precedes_total v).sortedFrom_eq_of_prefix (by decide) (fun r : Fin 8 => chosen v r.val) ?_ ?_ ?_ r
  · intro a b hab
    by_contra hne
    rcases lt_or_gt_of_ne (fun h => hne (Fin.ext h) : a.val ≠ b.val) with h | h
    · exact chosen_fresh v hv b.val (by omega) a.val h hab
    · exact chosen_fresh v hv a.val (by omega) b.val h hab.symm
  · intro i j hij
    exact notPrec i.val (by omega) _ fun s hs => chosen_fresh v hv j.val (by omega) s (hs.trans (Fin.lt_def.mp hij))
  · intro i p hp
    exact notPrec i.val (by omega) p fun s hs => hp ⟨s, hs.trans i.isLt⟩

end Cert.Router

end
-- ==== Proof.Rounds.lean ====
/-
  THE EIGHT ROUNDS, AS ONE OPERATION REPEATED.
  The body finds a token's eight largest weights by eight rounds over a [64, 2048] array of weights, one column for
  each token: take each column's maximum, take the first row that holds it, and put −∞ there. The body's terms for the
  rounds are all of one form, which is defined here once.
-/
module

public import proofs.«01_k».proof.Proof.Gen.KernelIdeal.Skeleton
public import proofs.«01_k».proof.Defs
public import proofs.«01_k».proof.Proof.Selection
public import Idealize.ShloMosaic.Lib.Pointwise

@[expose] public section

set_option maxRecDepth 16384

noncomputable section

namespace Cert.Router

open Idealize.ShloMosaic Idealize.ShloMosaic.TcCoe Idealize.SL.Sem
open Cert.KernelIdeal Cert.KernelIdeal.Gen

section Any

variable {F : FTy → Type} [FloatOps F]

/-- The row numbers. -/
def rows : IVec S64x2048 32 := iota .tc S64x2048 32 [0] iota_S64x2048_d0_w32

/-- Each column's maximum. -/
def tops (w : FVec F S64x2048 .f32) : FVec F S1x2048 .f32 :=
  shapeCast S1x2048 (multiReduction .maximumf [0] S2048 w 0xFF800000#32 reduces_S64x2048_S2048 (.inl rfl) rfl) shapeCasts_S2048_S1x2048

/-- The first row of each column that holds its maximum. -/
def firsts (w : FVec F S64x2048 .f32) : IVec S1x2048 32 :=
  shapeCast S1x2048 (multiReductionI .minsi [0] S2048 (select (cmpf .oeq w (broadcastTo S64x2048 (tops w) broadcasts_S1x2048_S64x2048)) rows (broadcast S64x2048 64#32)) 2147483647#32 reduces_S64x2048_S2048 rfl) shapeCasts_S2048_S1x2048

/-- The weights with −∞ in those rows. -/
def masked (w : FVec F S64x2048 .f32) : FVec F S64x2048 .f32 :=
  select (cmpi .eq rows (broadcastTo S64x2048 (firsts w) broadcasts_S1x2048_S64x2048)) (broadcast S64x2048 (Scalar.ofBits .f32 0xFF800000#32)) w

/-- What `r` rounds leave of the weights. -/
def left (w : FVec F S64x2048 .f32) : Nat → FVec F S64x2048 .f32
  | 0 => w
  | r + 1 => masked (left w r)

/-- The eight rounds' row numbers, one round under another. -/
def pickedRows (w : FVec F S64x2048 .f32) : IVec S8x2048 32 :=
  concatenate S8x2048 0 [⟨S1x2048, firsts (left w 0)⟩, ⟨S1x2048, firsts (left w 1)⟩, ⟨S1x2048, firsts (left w 2)⟩, ⟨S1x2048, firsts (left w 3)⟩,
    ⟨S1x2048, firsts (left w 4)⟩, ⟨S1x2048, firsts (left w 5)⟩, ⟨S1x2048, firsts (left w 6)⟩, ⟨S1x2048, firsts (left w 7)⟩]
    concatenates_S1x2048_S1x2048_S1x2048_S1x2048_S1x2048_S1x2048_S1x2048_S1x2048_S8x2048_d0

/-- The eight rounds' maxima, one round under another. -/
def pickedTops (w : FVec F S64x2048 .f32) : FVec F S8x2048 .f32 :=
  concatenate S8x2048 0 [⟨S1x2048, tops (left w 0)⟩, ⟨S1x2048, tops (left w 1)⟩, ⟨S1x2048, tops (left w 2)⟩, ⟨S1x2048, tops (left w 3)⟩,
    ⟨S1x2048, tops (left w 4)⟩, ⟨S1x2048, tops (left w 5)⟩, ⟨S1x2048, tops (left w 6)⟩, ⟨S1x2048, tops (left w 7)⟩]
    concatenates_S1x2048_S1x2048_S1x2048_S1x2048_S1x2048_S1x2048_S1x2048_S1x2048_S8x2048_d0

/-- Eight weights of each column, scaled to sum to one. -/
def scaled (p : FVec F S8x2048 .f32) : FVec F S8x2048 .f32 :=
  mulf p (broadcastTo S8x2048 (divf (broadcast S1x2048 (Scalar.ofBits .f32 0x3F800000#32))
    (shapeCast S1x2048 (multiReduction .add [0] S2048 p 0x00000000#32 reduces_S8x2048_S2048 (.inl rfl) rfl) shapeCasts_S2048_S1x2048)) broadcasts_S1x2048_S8x2048)

/-- Two rounds leave what the body's third round starts from. -/
theorem body_left_two (a : Vec F S64x2048 .f32) (b : Vec F S64x1 .f32) : k0_pay21 a b = left (k0_pay15 a b) 2 := rfl

/-- Two more rounds. -/
theorem body_left_four (v : FVec F S64x2048 .f32) : k0_pay27 rows v = masked (masked v) := rfl

/-- Three rounds after the second. -/
theorem body_left_five (v : FVec F S64x2048 .f32) : k0_pay30 rows v = masked (masked (masked v)) := rfl

/-- The body's list of rows is the eight rounds' list. -/
theorem body_rows (a : Vec F S64x2048 .f32) (b : Vec F S64x1 .f32) :
    k0_pay8 rows (k0_pay17 a b) (k0_pay20 a b) (k0_pay23 rows (k0_pay21 a b)) (k0_pay26 rows (k0_pay21 a b)) (k0_pay29 rows (k0_pay21 a b))
      (k0_pay30 rows (k0_pay21 a b)) (k0_pay32 rows (k0_pay21 a b)) (k0_pay33 rows (k0_pay21 a b)) = pickedRows (k0_pay15 a b) := rfl

/-- The body's scaled weights are the eight rounds' maxima, scaled. -/
theorem body_weights (a : Vec F S64x2048 .f32) (b : Vec F S64x1 .f32) :
    k0_pay9 rows (k0_pay16 a b) (k0_pay19 a b) (k0_pay22 (k0_pay21 a b)) (k0_pay25 rows (k0_pay21 a b)) (k0_pay28 rows (k0_pay21 a b))
      (k0_pay30 rows (k0_pay21 a b)) (k0_pay31 rows (k0_pay21 a b)) (k0_pay33 rows (k0_pay21 a b)) = scaled (pickedTops (k0_pay15 a b)) := rfl

end Any

/-! ## One column -/

/-- Token `t`'s column. -/
def column (w : FVec Ideal S64x2048 .f32) (t : Fin 2048) : Column := fun e => w (ix2 e t)

/-- The word of −∞ is the bottom of the order. -/
theorem minus_infinity : Ideal.ofBits .f32 0xFF800000#32 = ⊥ := by
  simp [Ideal.ofBits, Ideal.ieee]

/-- The signed minimum of two small naturals' words is the word of the lesser. -/
theorem word_min (a b : ℕ) (ha : a < 2 ^ 31) (hb : b < 2 ^ 31) : IntOp.minsi (BitVec.ofNat 32 a) (BitVec.ofNat 32 b) = BitVec.ofNat 32 (min a b) := by
  have hlt : (BitVec.ofNat 32 a).slt (BitVec.ofNat 32 b) = decide (a < b) := by
    rw [BitVec.slt, decide_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    omega
  unfold IntOp.minsi
  rw [hlt]
  by_cases h : a < b
  · simp [h, min_eq_left h.le]
  · simp [h, min_eq_right (not_lt.mp h)]

/-- The fold of the signed minimum over words of small naturals is the word of the fold of the minimum. -/
theorem word_fold_min (f : Fin 64 → ℕ) (hf : ∀ e, f e < 2 ^ 31) (s : Finset (Fin 64)) :
    s.fold IntOp.minsi 2147483647#32 (fun e => BitVec.ofNat 32 (f e)) = BitVec.ofNat 32 (s.fold min 2147483647 f) := by
  induction s using Finset.induction_on with
  | empty => simp
  | insert a s ha ih =>
    rw [Finset.fold_insert ha, Finset.fold_insert ha, ih]
    refine word_min _ _ (hf a) (lt_of_le_of_lt ((Finset.fold_min_le _).mpr (.inl le_rfl)) (by norm_num : 2147483647 < 2 ^ 31))

/-- The array of row numbers at a row. -/
theorem rows_apply (e : Fin 64) (t : Fin 2048) : rows (ix2 e t) = BitVec.ofNat 32 e.val := by
  pointwise [rows]

/-- A column's maximum. -/
theorem tops_apply (w : FVec Ideal S64x2048 .f32) (t : Fin 2048) : tops w (ix2 0 t) = greatest (column w t) := by
  unfold greatest column
  pointwise [tops]
  rw [minus_infinity]

/-- The first row that holds a column's maximum. -/
theorem firsts_apply (w : FVec Ideal S64x2048 .f32) (t : Fin 2048) : firsts w (ix2 0 t) = BitVec.ofNat 32 (pick (column w t)).val := by
  rw [← leastNat_eq_pick]
  unfold leastNat
  rw [← word_fold_min _ (fun e => by split <;> omega)]
  pointwise [firsts]
  refine Finset.fold_congr fun e _ => ?_
  rw [tops_apply, rows_apply, apply_ite (BitVec.ofNat 32)]
  rfl

/-- A round's mask leaves the column without its picked entry. -/
theorem masked_apply (w : FVec Ideal S64x2048 .f32) (t : Fin 2048) : column (masked w) t = without (column w t) := by
  funext e
  unfold without column
  pointwise [masked]
  rw [firsts_apply, rows_apply, minus_infinity]
  have h : IntOp.cmpi .eq (BitVec.ofNat 32 e.val) (BitVec.ofNat 32 (pick (column w t)).val) = BitVec.ofBool (decide (e = pick (column w t))) := by
    have hp := (pick (column w t)).isLt
    have he := e.isLt
    refine congrArg BitVec.ofBool ?_
    rw [Bool.eq_iff_iff, beq_iff_eq, decide_eq_true_iff, Fin.ext_iff]
    refine ⟨fun h => ?_, fun h => congrArg _ h⟩
    have := congrArg BitVec.toNat h
    simp only [BitVec.toNat_ofNat] at this
    omega
  rw [h]
  unfold column
  by_cases hp : e = pick fun e => w (ix2 e t)
  · rw [if_pos hp, decide_eq_true hp]; rfl
  · rw [if_neg hp, decide_eq_false hp]; rfl

/-- The column that `r` rounds leave. -/
theorem left_apply (w : FVec Ideal S64x2048 .f32) (t : Fin 2048) : ∀ r, column (left w r) t = remaining (column w t) r
  | 0 => rfl
  | r + 1 => by
    show column (masked (left w r)) t = without (remaining (column w t) r)
    rw [masked_apply, left_apply w t r]

/-- Round `r` reports the row of the expert it picks. -/
theorem pickedRows_apply (w : FVec Ideal S64x2048 .f32) (r : Fin 8) (t : Fin 2048) :
    pickedRows w (ix2 r t) = BitVec.ofNat 32 (chosen (column w t) r.val).val := by
  have h : pickedRows w (ix2 r t) = firsts (left w r.val) (ix2 0 t) := by
    fin_cases r <;> pointwise [pickedRows]
  rw [h, firsts_apply, left_apply]
  rfl

/-- Round `r` reports that expert's weight. -/
theorem pickedTops_apply (w : FVec Ideal S64x2048 .f32) (t : Fin 2048) (hw : ∀ e, ⊥ < w (ix2 e t)) (r : Fin 8) :
    pickedTops w (ix2 r t) = w (ix2 (chosen (column w t) r.val) t) := by
  have h : pickedTops w (ix2 r t) = tops (left w r.val) (ix2 0 t) := by
    fin_cases r <;> pointwise [pickedTops]
  rw [h, tops_apply, left_apply]
  exact greatest_remaining (column w t) hw r.val (by have := r.isLt; omega)

/-- The scaling at a round: times the reciprocal of the column's sum. -/
theorem scaled_apply (p : FVec Ideal S8x2048 .f32) (r : Fin 8) (t : Fin 2048) :
    scaled p (ix2 r t) = p (ix2 r t) * Ideal.div 1 (∑ s : Fin 8, p (ix2 s t)) := by
  pointwise [scaled]

end Cert.Router

end
-- ==== Proof.Product.lean ====
/-
  THE PRODUCT OF ONE HIDDEN BLOCK.
  For 512 of the hidden units a token has 512 activations, and the block adds, to each expert's score of the token, the
  activations weighted by the expert's row. Every form in which the body writes that product is read here at one
  expert and one token.
-/
module

public import proofs.«01_k».proof.Proof.Gen.KernelIdeal.Skeleton
public import proofs.«01_k».proof.Defs
public import Idealize.ShloMosaic.Lib.Pointwise

@[expose] public section

set_option maxRecDepth 16384

noncomputable section

namespace Cert.Router

open Idealize.ShloMosaic Idealize.ShloMosaic.TcCoe Idealize.SL.Sem
open Cert.KernelIdeal Cert.KernelIdeal.Gen

/-- One expert's gain from one token `u`: the block's 512 activations of the token, weighted by the expert's row. -/
def gain (u : Fin 4096 → EReal) (w1 : Vec Ideal S512x4096 .f32) (b1 : Vec Ideal S1x512 .f32) (w2 : Vec Ideal S64x512 .f32) (e : Fin 64) : EReal :=
  ∑ k : Fin 512, w2 (ix2 e k) * max ((∑ d : Fin 4096, u d * w1 (ix2 k d)) + b1 (ix2 0 k)) 0

/-- The body's product over all 2048 tokens, added to what the accumulator held. -/
theorem added_product (x : Vec Ideal S2048x4096 .f32) (w1 : Vec Ideal S512x4096 .f32) (b1 : Vec Ideal S1x512 .f32) (w2 : Vec Ideal S64x512 .f32)
    (acc : Vec Ideal S64x2048 .f32) (e : Fin 64) (t : Fin 2048) :
    k0_pay2 x w1 b1 w2 acc (ix2 e t) = acc (ix2 e t) + gain (fun d => x (ix2 t d)) w1 b1 w2 e := by
  unfold gain
  pointwise [k0_pay2]

/-- The product over the first quarter of the tokens, stored as it is. -/
theorem first_quarter (x : Vec Ideal S512x4096 .f32) (w1 : Vec Ideal S512x4096 .f32) (b1 : Vec Ideal S1x512 .f32) (w2 : Vec Ideal S64x512 .f32)
    (e : Fin 64) (t : Fin 512) :
    k0_pay10 x w1 b1 w2 (ix2 e t) = gain (fun d => x (ix2 t d)) w1 b1 w2 e := by
  unfold gain
  pointwise [k0_pay10]

/-- The product over the second quarter of the tokens, stored as it is. -/
theorem second_quarter (x : Vec Ideal S512x4096 .f32) (w1 : Vec Ideal S512x4096 .f32) (b1 : Vec Ideal S1x512 .f32) (w2 : Vec Ideal S64x512 .f32)
    (e : Fin 64) (t : Fin 512) :
    k0_pay13 (k0_pay11 x w1) (k0_pay12 b1) w2 (ix2 e t) = gain (fun d => x (ix2 t d)) w1 b1 w2 e := by
  unfold gain
  pointwise [k0_pay13, k0_pay11, k0_pay12]

/-- The product over the third quarter of the tokens, stored as it is. -/
theorem third_quarter (x : Vec Ideal S512x4096 .f32) (w1 : Vec Ideal S512x4096 .f32) (b1 : Vec Ideal S1x512 .f32) (w2 : Vec Ideal S64x512 .f32)
    (e : Fin 64) (t : Fin 512) :
    k0_pay14 x w1 b1 w2 (ix2 e t) = gain (fun d => x (ix2 t d)) w1 b1 w2 e := by
  unfold gain
  pointwise [k0_pay14]

/-- The product over the fourth quarter of the tokens, stored as it is. -/
theorem fourth_quarter (x : Vec Ideal S512x4096 .f32) (w1 : Vec Ideal S512x4096 .f32) (b1 : Vec Ideal S1x512 .f32) (w2 : Vec Ideal S64x512 .f32)
    (e : Fin 64) (t : Fin 512) :
    k0_pay1 x w1 b1 w2 (ix2 e t) = gain (fun d => x (ix2 t d)) w1 b1 w2 e := by
  unfold gain
  pointwise [k0_pay1]

end Cert.Router

end
-- ==== Proof.Body.lean ====
/-
  WHAT ONE POINT OF THE GRID COMPUTES.
  The kernel's grid has 4 × 8 points: 4 blocks of 2048 tokens, and for each of them 8 blocks of 512 hidden units. The
  buffers' contents after the body are named here as the body's own pure terms of what it read.
-/
module

public import proofs.«01_k».proof.Proof.Gen.KernelIdeal.Frame
public import proofs.«01_k».proof.Proof.Rounds
public import proofs.«01_k».proof.Proof.Product
public import Idealize.ShloMosaic.Lib.Pipeline.Value
public import Idealize.ShloMosaic.Lib.Tactic

@[expose] public section

set_option maxRecDepth 16384

noncomputable section

namespace Cert.Router

open Idealize.ShloMosaic Idealize.ShloMosaic.TcCoe Idealize.SL.Sem
open Cert.KernelIdeal Cert.KernelIdeal.Gen

variable {F : FTy → Type} [FloatOps F]

theorem origin : (![0, 0] : Fin 2 → Nat) = fun _ => 0 := funext fun a => by fin_cases a <;> rfl

variable (c : Dev nD) (i : grid0.Coords)
  (a3 : Memref sig .tc .vmem S512x4096 .f32) (h3 : a3.IsWhole) (a4 : Memref sig .tc .vmem S1x512 .f32) (h4 : a4.IsWhole)
  (a5 : Memref sig .tc .vmem S64x512 .f32) (h5 : a5.IsWhole) (a6 : Memref sig .tc .vmem S64x1 .f32) (h6 : a6.IsWhole)
  (a7 : Memref sig .tc .vmem S64x2048 .f32) (h7 : a7.IsWhole) (a8 : Memref sig .tc .vmem S8x2048 .i32) (h8 : a8.IsWhole)
  (a9 : Memref sig .tc .vmem S8x2048 .f32) (h9 : a9.IsWhole) (a10 : Memref sig .tc .vmem S2048x4096 .f32) (h10 : a10.IsWhole)
  (a11 : Memref sig .tc .vmem S64x2048 .f32) (h11 : a11.IsWhole)
  (x0 : Vec F S512x4096 .f32) (x1 : Vec F S1x512 .f32) (x2 : Vec F S64x512 .f32) (x3 : Vec F S64x1 .f32)
  (xs0 : Vec F S2048x4096 .f32) (xs1 : Vec F S64x2048 .f32) (fh0 : HbBuf0 (F := F) c hbM0_0)

/-- A middle hidden block: the accumulator gains the block's product. -/
theorem middle_acc (hc0 : ¬cond0_0 i) (hc1 : cond0_1 i) (hc2 : ¬cond0_2 i) :
    sout0_B_1 c i a3 h3 a4 h4 a5 h5 a6 h6 a7 h7 a8 h8 a9 h9 a10 h10 a11 h11 hc0 hc1 hc2 x0 x1 x2 x3 xs0 xs1 fh0
      = k0_pay2 xs0 x0 x1 x2 xs1 := by
  unfold sout0_B_1
  rw [View.read_writes_eq_canon _ _ _ (scover0_B_1 c i a3 h3 a4 h4 a5 h5 a6 h6 a7 h7 a8 h8 a9 h9 a10 h10 a11 h11 hc0 hc1 hc2 x0 x1 x2 x3 xs0 xs1 fh0)]
  unfold kernelRun0_B
  dsimp only
  sl_unfold_words
  rw [View.canon_unit_zero origin]
  simp only [View.readAt_eq_ld, h3.read_unread, h4.read_unread, h5.read_unread, h6.read_unread, h10.read_unread, h11.read_unread,
    View.ld_unit_zero (S := S512x4096) origin, View.ld_unit_zero (S := S1x512) origin, View.ld_unit_zero (S := S64x512) origin, View.ld_unit_zero (S := S64x1) origin, View.ld_unit_zero (S := S2048x4096) origin, View.ld_unit_zero (S := S64x2048) origin]

/-- The last hidden block does the same to the accumulator. -/
theorem last_acc (hc0 : ¬cond0_0 i) (hc1 : cond0_1 i) (hc2 : cond0_2 i) :
    sout0_C_1 c i a3 h3 a4 h4 a5 h5 a6 h6 a7 h7 a8 h8 a9 h9 a10 h10 a11 h11 hc0 hc1 hc2 x0 x1 x2 x3 xs0 xs1 fh0
      = k0_pay2 xs0 x0 x1 x2 xs1 := by
  unfold sout0_C_1
  rw [View.read_writes_eq_canon _ _ _ (scover0_C_1 c i a3 h3 a4 h4 a5 h5 a6 h6 a7 h7 a8 h8 a9 h9 a10 h10 a11 h11 hc0 hc1 hc2 x0 x1 x2 x3 xs0 xs1 fh0)]
  unfold kernelRun0_C
  dsimp only
  sl_unfold_words
  rw [View.canon_unit_zero origin]
  simp only [View.readAt_eq_ld, h3.read_unread, h4.read_unread, h5.read_unread, h6.read_unread, h10.read_unread, h11.read_unread,
    View.ld_unit_zero (S := S512x4096) origin, View.ld_unit_zero (S := S1x512) origin, View.ld_unit_zero (S := S64x512) origin, View.ld_unit_zero (S := S64x1) origin, View.ld_unit_zero (S := S2048x4096) origin, View.ld_unit_zero (S := S64x2048) origin]

/-- After the last hidden block, the first result: the softmax of the finished accumulator. -/
theorem last_softmax (hc0 : ¬cond0_0 i) (hc1 : cond0_1 i) (hc2 : cond0_2 i) :
    out0_C_4 c i a3 h3 a4 h4 a5 h5 a6 h6 a7 h7 a8 h8 a9 h9 a10 h10 a11 h11 hc0 hc1 hc2 x0 x1 x2 x3 xs0 xs1 fh0
      = k0_pay15 (k0_pay2 xs0 x0 x1 x2 xs1) x3 := by
  unfold out0_C_4
  rw [View.read_writes_eq_canon _ _ _ (cover0_C_4 c i a3 h3 a4 h4 a5 h5 a6 h6 a7 h7 a8 h8 a9 h9 a10 h10 a11 h11 hc0 hc1 hc2 x0 x1 x2 x3 xs0 xs1 fh0)]
  unfold kernelRun0_C
  dsimp only
  sl_unfold_words
  rw [View.canon_unit_zero origin]
  simp only [View.readAt_eq_ld, h3.read_unread, h4.read_unread, h5.read_unread, h6.read_unread, h10.read_unread, h11.read_unread, View.readCov_unit_zero (S := S64x2048) _ origin,
    View.ld_unit_zero (S := S512x4096) origin, View.ld_unit_zero (S := S1x512) origin, View.ld_unit_zero (S := S64x512) origin, View.ld_unit_zero (S := S64x1) origin, View.ld_unit_zero (S := S2048x4096) origin, View.ld_unit_zero (S := S64x2048) origin]

/-- The second result: the rows that the eight rounds pick. -/
theorem last_rows (hc0 : ¬cond0_0 i) (hc1 : cond0_1 i) (hc2 : cond0_2 i) :
    out0_C_5 c i a3 h3 a4 h4 a5 h5 a6 h6 a7 h7 a8 h8 a9 h9 a10 h10 a11 h11 hc0 hc1 hc2 x0 x1 x2 x3 xs0 xs1 fh0
      = pickedRows (k0_pay15 (k0_pay2 xs0 x0 x1 x2 xs1) x3) := by
  unfold out0_C_5
  rw [View.read_writes_eq_canon _ _ _ (cover0_C_5 c i a3 h3 a4 h4 a5 h5 a6 h6 a7 h7 a8 h8 a9 h9 a10 h10 a11 h11 hc0 hc1 hc2 x0 x1 x2 x3 xs0 xs1 fh0)]
  unfold kernelRun0_C
  dsimp only
  sl_unfold_words
  rw [View.canon_unit_zero origin]
  simp only [View.readAt_eq_ld, h3.read_unread, h4.read_unread, h5.read_unread, h6.read_unread, h10.read_unread, h11.read_unread, View.readCov_unit_zero (S := S64x2048) _ origin,
    View.ld_unit_zero (S := S512x4096) origin, View.ld_unit_zero (S := S1x512) origin, View.ld_unit_zero (S := S64x512) origin, View.ld_unit_zero (S := S64x1) origin, View.ld_unit_zero (S := S2048x4096) origin, View.ld_unit_zero (S := S64x2048) origin]
  exact body_rows _ _

/-- The third result: the rounds' maxima, scaled to sum to one. -/
theorem last_weights (hc0 : ¬cond0_0 i) (hc1 : cond0_1 i) (hc2 : cond0_2 i) :
    out0_C_6 c i a3 h3 a4 h4 a5 h5 a6 h6 a7 h7 a8 h8 a9 h9 a10 h10 a11 h11 hc0 hc1 hc2 x0 x1 x2 x3 xs0 xs1 fh0
      = scaled (pickedTops (k0_pay15 (k0_pay2 xs0 x0 x1 x2 xs1) x3)) := by
  unfold out0_C_6
  rw [View.read_writes_eq_canon _ _ _ (cover0_C_6 c i a3 h3 a4 h4 a5 h5 a6 h6 a7 h7 a8 h8 a9 h9 a10 h10 a11 h11 hc0 hc1 hc2 x0 x1 x2 x3 xs0 xs1 fh0)]
  unfold kernelRun0_C
  dsimp only
  sl_unfold_words
  rw [View.canon_unit_zero origin]
  simp only [View.readAt_eq_ld, h3.read_unread, h4.read_unread, h5.read_unread, h6.read_unread, h10.read_unread, h11.read_unread, View.readCov_unit_zero (S := S64x2048) _ origin,
    View.ld_unit_zero (S := S512x4096) origin, View.ld_unit_zero (S := S1x512) origin, View.ld_unit_zero (S := S64x512) origin, View.ld_unit_zero (S := S64x1) origin, View.ld_unit_zero (S := S2048x4096) origin, View.ld_unit_zero (S := S64x2048) origin]
  exact body_weights _ _

/-! ## The first hidden block

Here the body copies the block's 2048 rows of `x` in four quarters, and computes each quarter's product when its copy
has landed. -/

/-- Block `b`'s 2048 rows of `x`. -/
def tokensOf (X : Vec F S8192x4096 .f32) (b : Fin 4) : Vec F S2048x4096 .f32 :=
  fun j => X (ix2 ⟨2048 * b.val + (j 0).val, by have := b.isLt; have : (j 0).val < 2048 := (j 0).isLt; omega⟩ (j 1))

/-- The row at which a quarter's copy starts. -/
theorem quarter_start (b : Fin 4) (o : Fin 2048) : (Scalar.addi (Scalar.muli (BitVec.ofNat 32 b.val) 2048#32) (BitVec.ofNat 32 o.val)).toNat = 2048 * b.val + o.val := by
  have := b.isLt
  have := o.isLt
  simp [Scalar.addi, Scalar.muli, IntOp.addi, IntOp.muli]
  omega

/-- A quarter's copy places, at row `x` of the quarter that starts at row `o`, the block's row `o + x`. -/
theorem quarter_place (b : Fin 4) (o : Fin 2048) (ho : o.val + 512 ≤ 2048)
    (inb : ∀ a, ![(Scalar.addi (Scalar.muli (BitVec.ofNat 32 b.val) 2048#32) (BitVec.ofNat 32 o.val)).toNat, 0] a + ![512, 4096] a ≤ S8192x4096.size a)
    (inb' : ∀ a, ![o.val, 0] a + ![512, 4096] a ≤ S2048x4096.size a) (X : Vec F S8192x4096 .f32)
    (x : (Rect.unit (s := S2048x4096) ![o.val, 0] ![512, 4096] inb').shape.Idx) :
    X ((Rect.unit (s := S8192x4096) ![(Scalar.addi (Scalar.muli (BitVec.ofNat 32 b.val) 2048#32) (BitVec.ofNat 32 o.val)).toNat, 0] ![512, 4096] inb).emb x)
      = tokensOf X b ((Rect.unit (s := S2048x4096) ![o.val, 0] ![512, 4096] inb').emb x) := by
  have h := quarter_start b o
  refine congrArg X (funext fun a => Fin.ext ?_)
  fin_cases a
  · show (Scalar.addi (Scalar.muli (BitVec.ofNat 32 b.val) 2048#32) (BitVec.ofNat 32 o.val)).toNat + 1 * (x 0).val = 2048 * b.val + (o.val + 1 * (x 0).val)
    omega
  · rfl

/-- After the first hidden block's copies the token buffer holds the block's rows of `x`. -/
theorem first_tokens (hc0 : cond0_0 i) (hc1 : ¬cond0_1 i) (hc2 : ¬cond0_2 i) :
    sout0_A_0 c i a3 h3 a4 h4 a5 h5 a6 h6 a7 h7 a8 h8 a9 h9 a10 h10 a11 h11 hc0 hc1 hc2 x0 x1 x2 x3 fh0
      = tokensOf fh0 (i 0) := by
  unfold sout0_A_0
  rw [View.read_writes_eq_canon _ _ _ (scover0_A_0 c i a3 h3 a4 h4 a5 h5 a6 h6 a7 h7 a8 h8 a9 h9 a10 h10 a11 h11 hc0 hc1 hc2 x0 x1 x2 x3 fh0)]
  have hcov := scover0_A_0 c i a3 h3 a4 h4 a5 h5 a6 h6 a7 h7 a8 h8 a9 h9 a10 h10 a11 h11 hc0 hc1 hc2 x0 x1 x2 x3 fh0
  revert hcov
  unfold kernelRun0_A
  dsimp only
  sl_unfold_words
  intro hcov
  funext y
  refine View.canon_apply_of_pieces (tokensOf fh0 (i 0)) _ ?_ y (hcov y)
  intro p hp
  simp only [List.mem_cons, List.not_mem_nil, or_false] at hp
  rcases hp with rfl | rfl | rfl | rfl
  · exact quarter_place (i 0) 1536 (by decide) _ inb_S2048x4096_S512x4096_1536_0 fh0
  · exact quarter_place (i 0) 1024 (by decide) _ inb_S2048x4096_S512x4096_1024_0 fh0
  · exact quarter_place (i 0) 512 (by decide) _ inb_S2048x4096_S512x4096_512_0 fh0
  · exact quarter_place (i 0) 0 (by decide) _ inb_S2048x4096_S512x4096_0_0 fh0

/-- A quarter's product, computed from the quarter's rows and stored at the quarter's columns, is at each column the gain of that column's token. -/
theorem quarter_gain (pay : Vec Ideal S512x4096 .f32 → FVec Ideal S64x512 .f32)
    (w1 : Vec Ideal S512x4096 .f32) (b1 : Vec Ideal S1x512 .f32) (w2 : Vec Ideal S64x512 .f32)
    (hpay : ∀ xq e t, pay xq (ix2 e t) = gain (fun d => xq (ix2 t d)) w1 b1 w2 e) (T : Vec Ideal S2048x4096 .f32) (o : Nat)
    (inb : ∀ a, ![o, 0] a + ![512, 4096] a ≤ S2048x4096.size a) (inb' : ∀ a, ![0, o] a + ![64, 512] a ≤ S64x2048.size a)
    (x : (Rect.unit (s := S64x2048) ![0, o] ![64, 512] inb').shape.Idx) :
    pay (fun j => T ((Rect.unit (s := S2048x4096) ![o, 0] ![512, 4096] inb).idx j)) x
      = gain (fun d => T (ix2 ((Rect.unit (s := S64x2048) ![0, o] ![64, 512] inb').emb x 1) d)) w1 b1 w2 ((Rect.unit (s := S64x2048) ![0, o] ![64, 512] inb').emb x 0) := by
  have hx : x = ix2 (n0 := 64) (n1 := 512) (x 0) (x 1) := by funext a; fin_cases a <;> rfl
  have he : (Rect.unit (s := S64x2048) ![0, o] ![64, 512] inb').emb x 0 = x 0 := Fin.ext (by show 0 + 1 * (x 0).val = (x 0).val; omega)
  have hrow : (fun d : Fin 4096 => T ((Rect.unit (s := S2048x4096) ![o, 0] ![512, 4096] inb).idx (ix2 (n0 := 512) (n1 := 4096) (x 1) d)))
      = fun d => T (ix2 ((Rect.unit (s := S64x2048) ![0, o] ![64, 512] inb').emb x 1) d) := by
    funext d
    refine congrArg T (funext fun a => Fin.ext ?_)
    fin_cases a
    · rfl
    · show 0 + 1 * d.val = d.val
      omega
  rw [he, ← hrow]
  conv_lhs => rw [hx]
  exact hpay _ _ _

/-- What the first hidden block stores in the accumulator: each expert's gain from each token. -/
theorem first_acc (hc0 : cond0_0 i) (hc1 : ¬cond0_1 i) (hc2 : ¬cond0_2 i)
    (x0 : Vec Ideal S512x4096 .f32) (x1 : Vec Ideal S1x512 .f32) (x2 : Vec Ideal S64x512 .f32) (x3 : Vec Ideal S64x1 .f32) (fh0 : HbBuf0 (F := Ideal) c hbM0_0)
    (y : S64x2048.Idx) :
    sout0_A_1 c i a3 h3 a4 h4 a5 h5 a6 h6 a7 h7 a8 h8 a9 h9 a10 h10 a11 h11 hc0 hc1 hc2 x0 x1 x2 x3 fh0 y
      = gain (fun d => tokensOf (F := Ideal) fh0 (i 0) (ix2 (y 1) d)) x0 x1 x2 (y 0) := by
  have htok := first_tokens c i a3 h3 a4 h4 a5 h5 a6 h6 a7 h7 a8 h8 a9 h9 a10 h10 a11 h11 x0 x1 x2 x3 fh0 hc0 hc1 hc2
  unfold sout0_A_0 at htok
  rw [View.read_writes_eq_canon _ _ _ (scover0_A_0 c i a3 h3 a4 h4 a5 h5 a6 h6 a7 h7 a8 h8 a9 h9 a10 h10 a11 h11 hc0 hc1 hc2 x0 x1 x2 x3 fh0)] at htok
  unfold sout0_A_1
  rw [View.read_writes_eq_canon _ _ _ (scover0_A_1 c i a3 h3 a4 h4 a5 h5 a6 h6 a7 h7 a8 h8 a9 h9 a10 h10 a11 h11 hc0 hc1 hc2 x0 x1 x2 x3 fh0)]
  have hcov := scover0_A_1 c i a3 h3 a4 h4 a5 h5 a6 h6 a7 h7 a8 h8 a9 h9 a10 h10 a11 h11 hc0 hc1 hc2 x0 x1 x2 x3 fh0
  revert hcov htok
  unfold kernelRun0_A
  dsimp only
  sl_unfold_words
  intro htok
  simp only [View.readAt_eq_ld, h3.read_unread, h4.read_unread, h5.read_unread, h6.read_unread,
    View.ld_unit_zero (S := S512x4096) origin, View.ld_unit_zero (S := S1x512) origin, View.ld_unit_zero (S := S64x512) origin, View.ld_unit_zero (S := S64x1) origin]
  intro hcov
  refine View.canon_apply_of_pieces (fun y => gain (fun d => tokensOf (F := Ideal) fh0 (i 0) (ix2 (y 1) d)) x0 x1 x2 (y 0)) _ ?_ y (hcov y)
  intro p hp
  simp only [List.mem_cons, List.not_mem_nil, or_false] at hp
  rcases hp with rfl | rfl | rfl | rfl <;> dsimp only <;> intro x <;> rw [View.readCov_eq_canon', htok]
  · exact quarter_gain (fun xq => k0_pay1 xq x0 x1 x2) x0 x1 x2 (fun xq => fourth_quarter xq x0 x1 x2) (tokensOf fh0 (i 0)) 1536 inb_S2048x4096_S512x4096_1536_0 inb_S64x2048_S64x512_0_1536 x
  · exact quarter_gain (fun xq => k0_pay14 xq x0 x1 x2) x0 x1 x2 (fun xq => third_quarter xq x0 x1 x2) (tokensOf fh0 (i 0)) 1024 inb_S2048x4096_S512x4096_1024_0 inb_S64x2048_S64x512_0_1024 x
  · exact quarter_gain (fun xq => k0_pay13 (k0_pay11 xq x0) (k0_pay12 x1) x2) x0 x1 x2 (fun xq => second_quarter xq x0 x1 x2) (tokensOf fh0 (i 0)) 512 inb_S2048x4096_S512x4096_512_0 inb_S64x2048_S64x512_0_512 x
  · exact quarter_gain (fun xq => k0_pay10 xq x0 x1 x2) x0 x1 x2 (fun xq => first_quarter xq x0 x1 x2) (tokensOf fh0 (i 0)) 0 inb_S2048x4096_S512x4096_0_0 inb_S64x2048_S64x512_0_0 x

end Cert.Router

end
-- ==== Proof.Blocks.lean ====
/-
  THE BLOCKS A GRID POINT IS GIVEN.
  Point `t` works on the tokens numbered `2048 * (t / 8)` onward and on the hidden units numbered `512 * (t % 8)`
  onward. Each window's block is read here at an index as an entry of the whole array it is cut from.
-/
module

public import proofs.«01_k».proof.Proof.Body

@[expose] public section

set_option maxRecDepth 16384

noncomputable section
namespace Cert.Router
open Idealize.ShloMosaic Idealize.ShloMosaic.TcCoe Idealize.SL.Sem
open Cert.KernelIdeal Cert.KernelIdeal.Gen

/-- Where each window's block starts at a point. -/
theorem block_starts : ∀ t : Fin grid0.N,
    (win0_0.index t 0 = t.val % 8 ∧ win0_0.index t 1 = 0)
    ∧ (win0_1.index t 0 = 0 ∧ win0_1.index t 1 = t.val % 8)
    ∧ (win0_2.index t 0 = 0 ∧ win0_2.index t 1 = t.val % 8)
    ∧ (win0_3.index t 0 = 0 ∧ win0_3.index t 1 = 0)
    ∧ (win0_4.index t 0 = 0 ∧ win0_4.index t 1 = t.val / 8)
    ∧ (win0_5.index t 0 = 0 ∧ win0_5.index t 1 = t.val / 8)
    ∧ (win0_6.index t 0 = 0 ∧ win0_6.index t 1 = t.val / 8) := by
  decide +kernel

/-- The token group of a point, as its first grid coordinate. -/
theorem group_of (t : Fin grid0.N) : ((grid0.coords t) 0).val = t.val / 8 := by
  have h : ((grid0.coords t) 0).val = t.val / 8 % 4 := Pipeline.Grid.coords_val t 0 (by decide) rfl
  have hN : t.val < 32 := by exact N_0 ▸ t.isLt
  omega

section
variable {F : FTy → Type} [FloatOps F] (m : (l : Loc nD τ sig) → Buf (Elt F) l) (c : Dev nD) (t : Fin grid0.N)

/-- Window 0 at a point: 512 rows of the first weights. -/
theorem block_w1 (k : Fin 512) (d : Fin 4096) :
    (iblk m c 0 t : Vec F S512x4096 .f32) (ix2 k d)
      = (V m c main_arg1 : Vec F S4096x4096 .f32) (ix2 ⟨512 * (t.val % 8) + k.val, by omega⟩ d) := by
  obtain ⟨⟨e0, e1⟩, -⟩ := block_starts t
  show V m c main_arg1 (((cfg0.win 0).blk t).view.emb (ix2 k d)) = _
  congr 1
  funext a
  apply Fin.ext
  match a with
  | ⟨0, _⟩ => show win0_0.index t 0 * 512 + 1 * k.val = 512 * (t.val % 8) + k.val; rw [e0]; omega
  | ⟨1, _⟩ => show win0_0.index t 1 * 4096 + 1 * d.val = d.val; rw [e1]; omega

/-- Window 1 at a point: 512 of the first offsets. -/
theorem block_b1 (k : Fin 512) :
    (iblk m c 1 t : Vec F S1x512 .f32) (ix2 0 k)
      = (V m c main_v1 : Vec F S1x4096 .f32) (ix2 0 ⟨512 * (t.val % 8) + k.val, by omega⟩) := by
  obtain ⟨-, ⟨e0, e1⟩, -⟩ := block_starts t
  show V m c main_v1 (((cfg0.win 1).blk t).view.emb (ix2 0 k)) = _
  congr 1
  funext a
  apply Fin.ext
  match a with
  | ⟨0, _⟩ => show win0_1.index t 0 * 1 + 1 * 0 = 0; rw [e0]
  | ⟨1, _⟩ => show win0_1.index t 1 * 512 + 1 * k.val = 512 * (t.val % 8) + k.val; rw [e1]; omega

/-- Window 2 at a point: 512 columns of the second weights. -/
theorem block_w2 (e : Fin 64) (k : Fin 512) :
    (iblk m c 2 t : Vec F S64x512 .f32) (ix2 e k)
      = (V m c main_arg3 : Vec F S64x4096 .f32) (ix2 e ⟨512 * (t.val % 8) + k.val, by omega⟩) := by
  obtain ⟨-, -, ⟨e0, e1⟩, -⟩ := block_starts t
  show V m c main_arg3 (((cfg0.win 2).blk t).view.emb (ix2 e k)) = _
  congr 1
  funext a
  apply Fin.ext
  match a with
  | ⟨0, _⟩ => show win0_2.index t 0 * 64 + 1 * e.val = e.val; rw [e0]; omega
  | ⟨1, _⟩ => show win0_2.index t 1 * 512 + 1 * k.val = 512 * (t.val % 8) + k.val; rw [e1]; omega

/-- Window 3 at a point: all the second offsets. -/
theorem block_b2 (e : Fin 64) :
    (iblk m c 3 t : Vec F S64x1 .f32) (ix2 e 0) = (V m c main_v2 : Vec F S64x1 .f32) (ix2 e 0) := by
  obtain ⟨-, -, -, ⟨e0, e1⟩, -⟩ := block_starts t
  show V m c main_v2 (((cfg0.win 3).blk t).view.emb (ix2 e 0)) = _
  congr 1
  funext a
  apply Fin.ext
  match a with
  | ⟨0, _⟩ => show win0_3.index t 0 * 64 + 1 * e.val = e.val; rw [e0]; omega
  | ⟨1, _⟩ => show win0_3.index t 1 * 1 + 1 * 0 = 0; rw [e1]
end

end Cert.Router
end
-- ==== Proof.Accumulate.lean ====
/-
  WHAT THE KERNEL CARRIES FROM POINT TO POINT.
  The token scratch keeps the current group of 2048 tokens; the accumulator keeps, for each expert and token, the sum
  over the hidden units met so far. After the eighth hidden block that sum runs over all 4096 hidden units.
-/
module

public import proofs.«01_k».proof.Proof.Blocks

@[expose] public section

set_option maxRecDepth 16384

noncomputable section
namespace Cert.Router
open Idealize.ShloMosaic Idealize.ShloMosaic.TcCoe Idealize.SL.Sem
open Cert.KernelIdeal Cert.KernelIdeal.Gen

/-- Hidden unit `k`'s contribution to the logit of expert `e` for token `s`; nothing past the last unit. -/
def part (X : Vec Ideal S8192x4096 .f32) (W1 : Vec Ideal S4096x4096 .f32) (B1 : Vec Ideal S1x4096 .f32) (W2 : Vec Ideal S64x4096 .f32)
    (e : Fin 64) (s : Fin 8192) (k : Nat) : EReal :=
  if h : k < 4096 then W2 (ix2 e ⟨k, h⟩) * max ((∑ d : Fin 4096, X (ix2 s d) * W1 (ix2 ⟨k, h⟩ d)) + B1 (ix2 0 ⟨k, h⟩)) 0 else 0

variable (m : (l : Loc nD τ sig) → Buf (Elt Ideal) l) (c : Dev nD)

/-- `part` of the arrays the kernel is run on. -/
abbrev partOf (e : Fin 64) (s : Fin 8192) (k : Nat) : EReal :=
  part (V m c main_v0) (V m c main_arg1) (V m c main_v1) (V m c main_arg3) e s k

/-- A point's token number `t` among all tokens. -/
def tokenAt (n : Nat) (h : n < cfg0.N) (t : Fin 2048) : Fin 8192 :=
  ⟨2048 * (n / 8) + t.val, by have : n < 32 := N_0 ▸ h; omega⟩

/-- The gain a point adds is the part of its 512 hidden units. -/
theorem gain_of_block (t : Fin cfg0.N) (e : Fin 64) (s : Fin 2048) :
    gain (fun d => tokensOf (F := Ideal) (V m c main_v0) ((grid0.coords t) 0) (ix2 s d)) (iblk m c 0 t) (iblk m c 1 t) (iblk m c 2 t) e
      = ∑ k ∈ Finset.range 512, partOf m c e (tokenAt t.val t.isLt s) (512 * (t.val % 8) + k) := by
  rw [Finset.sum_range]
  unfold gain
  refine Finset.sum_congr rfl fun k _ => ?_
  have hk : 512 * (t.val % 8) + k.val < 4096 := by omega
  rw [partOf, part, dif_pos hk]
  refine congrArg₂ (· * ·) (block_w2 m c t e k) (congrArg (fun a => max a (0 : EReal)) ?_)
  refine congrArg₂ (· + ·) (Finset.sum_congr rfl fun d _ => ?_) (block_b1 m c t k)
  refine congrArg₂ (· * ·) ?_ (block_w1 m c t k d)
  refine congrArg (V m c main_v0) (congrArg (fun a => ix2 a d) (Fin.ext ?_))
  show 2048 * ((grid0.coords t) 0).val + s.val = 2048 * (t.val / 8) + s.val
  rw [group_of]

/-- A point past a group's first has the same group as the point before it. -/
theorem same_group (n : Nat) (h : n + 1 < cfg0.N) (hn : ¬(n + 1) % 8 = 0) :
    (grid0.coords ⟨n + 1, h⟩) 0 = (grid0.coords ⟨n, Nat.lt_of_succ_lt h⟩) 0 := by
  refine Fin.ext (((group_of ⟨n + 1, h⟩).trans ?_).trans (group_of ⟨n, Nat.lt_of_succ_lt h⟩).symm)
  show (n + 1) / 8 = n / 8
  omega

/-- A group's first point fills the token scratch with the group's tokens. -/
theorem tokens_first (t : Fin cfg0.N) (h0 : t.val % 8 = 0) :
    (outsAt0 m c t.val t.isLt).2.2.2.1 = tokensOf (F := Ideal) (V m c main_v0) ((grid0.coords t) 0) := by
  rw [outsAt0_A m c t h0 (by omega) (by omega)]
  dsimp only
  exact first_tokens c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) _ _ _ _ _ _ _ _

/-- A later point leaves the token scratch as it was. -/
theorem tokens_next (t : Fin cfg0.N) (h0 : ¬t.val % 8 = 0) :
    (outsAt0 m c t.val t.isLt).2.2.2.1 = (outsAt0 m c (t.val - 1) (by omega)).2.2.2.1 := by
  by_cases h2 : t.val % 8 = 7
  · rw [outsAt0_C m c t h0 (by omega) h2]
    dsimp only [sout0_C_0]
  · rw [outsAt0_B m c t h0 (by omega) h2]
    dsimp only [sout0_B_0]

/-- After every point the token scratch holds the point's group of tokens. -/
theorem tokens_held (n : Nat) (h : n < cfg0.N) :
    (outsAt0 m c n h).2.2.2.1 = tokensOf (F := Ideal) (V m c main_v0) ((grid0.coords ⟨n, h⟩) 0) := by
  induction n with
  | zero => exact tokens_first m c ⟨0, h⟩ rfl
  | succ n ih =>
    by_cases h0 : (n + 1) % 8 = 0
    · exact tokens_first m c ⟨n + 1, h⟩ h0
    · rw [same_group n h h0]
      exact (tokens_next m c ⟨n + 1, h⟩ h0).trans (ih (Nat.lt_of_succ_lt h))

/-- One more block of 512 hidden units extends the sum. -/
theorem extend (f : Nat → EReal) (q : Nat) :
    (∑ k ∈ Finset.range (512 * q), f k) + ∑ k ∈ Finset.range 512, f (512 * q + k) = ∑ k ∈ Finset.range (512 * (q + 1)), f k := by
  rw [Nat.mul_succ, Finset.sum_range_add]

/-- A group's first point leaves the parts of the first 512 hidden units in the accumulator. -/
theorem acc_first (t : Fin cfg0.N) (h0 : t.val % 8 = 0) (e : Fin 64) (s : Fin 2048) :
    (outsAt0 m c t.val t.isLt).2.2.2.2 (ix2 e s)
      = ∑ k ∈ Finset.range (512 * (t.val % 8 + 1)), partOf m c e (tokenAt t.val t.isLt s) k := by
  rw [outsAt0_A m c t h0 (by omega) (by omega)]
  dsimp only
  refine (first_acc c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) _ _ _ _ _ _ _ _ _).trans
    ((gain_of_block m c t e s).trans ?_)
  rw [h0]
  exact Finset.sum_congr (by norm_num) fun k _ => congrArg _ (by omega)

/-- A later point adds the product of its blocks to what the point before left. -/
theorem acc_next (t : Fin cfg0.N) (h0 : ¬t.val % 8 = 0) :
    (outsAt0 m c t.val t.isLt).2.2.2.2
      = k0_pay2 ((outsAt0 m c (t.val - 1) (by omega)).2.2.2.1) (iblk m c 0 t) (iblk m c 1 t) (iblk m c 2 t)
          ((outsAt0 m c (t.val - 1) (by omega)).2.2.2.2) := by
  by_cases h2 : t.val % 8 = 7
  · rw [outsAt0_C m c t h0 (by omega) h2]
    dsimp only
    exact last_acc c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) _ _ _ _ _ _ _ _ _ _
  · rw [outsAt0_B m c t h0 (by omega) h2]
    dsimp only
    exact middle_acc c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) _ _ _ _ _ _ _ _ _ _

/-- After every point the accumulator holds the parts of all hidden units met in the point's group. -/
theorem acc_held (n : Nat) (h : n < cfg0.N) (e : Fin 64) (s : Fin 2048) :
    (outsAt0 m c n h).2.2.2.2 (ix2 e s) = ∑ k ∈ Finset.range (512 * (n % 8 + 1)), partOf m c e (tokenAt n h s) k := by
  induction n with
  | zero => exact acc_first m c ⟨0, h⟩ rfl e s
  | succ n ih =>
    by_cases h0 : (n + 1) % 8 = 0
    · exact acc_first m c ⟨n + 1, h⟩ h0 e s
    · have hn : n < cfg0.N := Nat.lt_of_succ_lt h
      have step : (outsAt0 m c (n + 1) h).2.2.2.2 (ix2 e s)
          = (outsAt0 m c n hn).2.2.2.2 (ix2 e s)
            + gain (fun d => tokensOf (F := Ideal) (V m c main_v0) ((grid0.coords ⟨n + 1, h⟩) 0) (ix2 s d)) (iblk m c 0 ⟨n + 1, h⟩) (iblk m c 1 ⟨n + 1, h⟩) (iblk m c 2 ⟨n + 1, h⟩) e := by
        rw [same_group n h h0, ← tokens_held m c n hn]
        exact (congrFun (acc_next m c ⟨n + 1, h⟩ h0) (ix2 e s)).trans (added_product _ _ _ _ _ e s)
      have htok : tokenAt n hn s = tokenAt (n + 1) h s :=
        Fin.ext (by show 2048 * (n / 8) + s.val = 2048 * ((n + 1) / 8) + s.val; omega)
      rw [step, ih hn, gain_of_block m c ⟨n + 1, h⟩ e s, htok, show n % 8 + 1 = (n + 1) % 8 by omega]
      exact extend _ _

end Cert.Router
end
-- ==== Proof.Softmax.lean ====
/-
  THE WEIGHTS OF ONE TOKEN.
  From a token's 64 logits to its routing weights and its eight chosen weights, in the reference's form: each quotient
  is a division. The kernel multiplies by the reciprocal of the divisor instead. That is the same number when the
  divisor is not zero, which finite logits ensure.
-/
module

public import proofs.«01_k».proof.Proof.Selection
public import Idealize.ShloMosaic.Lib.IdealHost

@[expose] public section

noncomputable section
namespace Cert.Router
open Idealize.ShloMosaic

/-- A token's logits: two layers with a maximum against zero between them. -/
def logits (x : Fin 4096 → EReal) (w1 : Fin 4096 → Fin 4096 → EReal) (b1 : Fin 4096 → EReal) (w2 : Fin 64 → Fin 4096 → EReal) (b2 : Fin 64 → EReal) : Column :=
  fun e => (∑ k, max ((∑ d, x d * w1 k d) + b1 k) 0 * w2 e k) + b2 e

/-- The routing weights of a column of logits. -/
def softmax (v : Column) : Column :=
  fun e => Ideal.div (Ideal.exp (v e - greatest v)) (∑ q, Ideal.exp (v q - greatest v))

/-- The eight greatest of a column of weights, greatest first. -/
def best (w : Column) (r : Fin 8) : EReal := w (chosen w r.val)

/-- The eight greatest of a column of weights, divided by their sum. -/
def share (w : Column) (r : Fin 8) : EReal := Ideal.div (best w r) (∑ s, best w s)

/-- A number that is neither infinity. -/
def Finite (a : EReal) : Prop := ∃ r : ℝ, a = (r : EReal)

theorem Finite.add {a b : EReal} : Finite a → Finite b → Finite (a + b)
  | ⟨r, hr⟩, ⟨s, hs⟩ => ⟨r + s, by rw [hr, hs, EReal.coe_add]⟩

theorem Finite.mul {a b : EReal} : Finite a → Finite b → Finite (a * b)
  | ⟨r, hr⟩, ⟨s, hs⟩ => ⟨r * s, by rw [hr, hs, EReal.coe_mul]⟩

theorem Finite.max_zero {a : EReal} (h : Finite a) : Finite (max a 0) := by
  rcases max_choice a 0 with e | e <;> rw [e]
  · exact h
  · exact ⟨0, rfl⟩

/-- The coercion of a sum of reals. -/
theorem coe_sum {n : Nat} (f : Fin n → ℝ) : ((∑ k, f k : ℝ) : EReal) = ∑ k, (f k : EReal) :=
  map_sum (⟨⟨Real.toEReal, EReal.coe_zero⟩, EReal.coe_add⟩ : ℝ →+ EReal) f Finset.univ

theorem Finite.sum {n : Nat} (f : Fin n → EReal) (h : ∀ k, Finite (f k)) : Finite (∑ k, f k) := by
  choose g hg using h
  exact ⟨∑ k, g k, by rw [coe_sum]; exact Finset.sum_congr rfl fun k _ => hg k⟩

/-- Finite arguments give finite logits. -/
theorem logits_finite (x : Fin 4096 → EReal) (w1 : Fin 4096 → Fin 4096 → EReal) (b1 : Fin 4096 → EReal) (w2 : Fin 64 → Fin 4096 → EReal) (b2 : Fin 64 → EReal)
    (hx : ∀ d, Finite (x d)) (hw1 : ∀ k d, Finite (w1 k d)) (hb1 : ∀ k, Finite (b1 k)) (hw2 : ∀ e k, Finite (w2 e k)) (hb2 : ∀ e, Finite (b2 e)) (e : Fin 64) :
    Finite (logits x w1 b1 w2 b2 e) :=
  (Finite.sum _ fun k => (((Finite.sum _ fun d => (hx d).mul (hw1 k d)).add (hb1 k)).max_zero).mul (hw2 e k)).add (hb2 e)

/-- Division by a number other than zero is multiplication by its reciprocal. -/
theorem mul_reciprocal (a s : EReal) (hs : s ≠ 0) : a * Ideal.div 1 s = Ideal.div a s := by
  unfold Ideal.div
  rw [if_neg hs, if_neg hs, one_mul]

/-- Division by one changes nothing. -/
theorem div_one (a : EReal) : Ideal.div a 1 = a := by
  unfold Ideal.div
  rw [if_neg one_ne_zero, inv_one, mul_one]

/-- The terms of a finite column's exponential sum are positive reals. -/
theorem exp_terms (v : Column) (hv : ∀ e, Finite (v e)) : ∃ g : Fin 64 → ℝ, (∀ e, 0 < g e) ∧ ∀ e, Ideal.exp (v e - greatest v) = (g e : EReal) := by
  choose f hf using hv
  refine ⟨fun e => Real.exp (f e - f (pick v)), fun e => Real.exp_pos _, fun e => ?_⟩
  rw [← apply_pick, hf, hf, ← EReal.coe_sub]
  rfl

/-- A sum of positive reals is not zero. -/
theorem sum_ne_zero {n : Nat} (hn : 0 < n) (g : Fin n → ℝ) (h : ∀ e, 0 < g e) : (∑ e, (g e : EReal)) ≠ 0 ∧ 0 < ∑ e, g e := by
  have : 0 < ∑ e, g e := Finset.sum_pos (fun e _ => h e) ⟨⟨0, hn⟩, Finset.mem_univ _⟩
  rw [← coe_sum]
  exact ⟨fun h0 => this.ne' (EReal.coe_eq_zero.mp h0), this⟩

/-- A finite column's exponential sum is not zero. -/
theorem exp_sum_ne_zero (v : Column) (hv : ∀ e, Finite (v e)) : (∑ q, Ideal.exp (v q - greatest v)) ≠ 0 := by
  obtain ⟨g, hg, he⟩ := exp_terms v hv
  rw [Finset.sum_congr rfl fun e _ => he e]
  exact (sum_ne_zero (by decide) g hg).1

/-- The routing weights of finite logits are positive reals. -/
theorem softmax_real (v : Column) (hv : ∀ e, Finite (v e)) : ∃ g : Fin 64 → ℝ, (∀ e, 0 < g e) ∧ ∀ e, softmax v e = (g e : EReal) := by
  have hs := exp_sum_ne_zero v hv
  obtain ⟨g, hg, he⟩ := exp_terms v hv
  refine ⟨fun e => g e * (∑ q, g q)⁻¹, fun e => mul_pos (hg e) (inv_pos.mpr (sum_ne_zero (by decide) g hg).2), fun e => ?_⟩
  unfold softmax Ideal.div
  rw [if_neg hs, he, Finset.sum_congr rfl fun e _ => he e, ← coe_sum, ← EReal.coe_inv, ← EReal.coe_mul]

/-- No routing weight of finite logits is −∞. -/
theorem softmax_above (v : Column) (hv : ∀ e, Finite (v e)) (e : Fin 64) : ⊥ < softmax v e := by
  obtain ⟨g, -, he⟩ := softmax_real v hv
  rw [he]
  exact EReal.bot_lt_coe _

/-- The eight greatest routing weights of finite logits do not sum to zero. -/
theorem best_sum_ne_zero (v : Column) (hv : ∀ e, Finite (v e)) : (∑ s, best (softmax v) s) ≠ 0 := by
  obtain ⟨g, hg, he⟩ := softmax_real v hv
  rw [Finset.sum_congr rfl fun s _ => he (chosen (softmax v) s.val)]
  exact (sum_ne_zero (by decide) (fun s : Fin 8 => g (chosen (softmax v) s.val)) fun s => hg _).1

end Cert.Router
end
-- ==== Proof.Arrays.lean ====
/-
  WHAT THE KERNEL'S THREE RESULT ARRAYS HOLD.
  A group's last point writes the group's columns of each result. The four groups' columns make up each array, so each
  array is one function of the tokens' logits.
-/
module

public import proofs.«01_k».proof.Proof.Accumulate
public import proofs.«01_k».proof.Proof.Softmax

@[expose] public section

set_option maxRecDepth 16384

noncomputable section
namespace Cert.Router
open Idealize.ShloMosaic Idealize.ShloMosaic.TcCoe Idealize.SL.Sem
open Cert.KernelIdeal Cert.KernelIdeal.Gen

/-- The body's weights of a column whose logits are finite are its routing weights. -/
theorem body_softmax (acc : FVec Ideal S64x2048 .f32) (b : FVec Ideal S64x1 .f32) (t : Fin 2048) (v : Column)
    (hv : ∀ e, acc (ix2 e t) + b (ix2 e 0) = v e) (hfin : ∀ e, Finite (v e)) : column (k0_pay15 acc b) t = softmax v := by
  funext e
  obtain rfl : (fun e => acc (ix2 e t) + b (ix2 e 0)) = v := funext hv
  refine Eq.trans ?_ (mul_reciprocal _ _ (exp_sum_ne_zero _ hfin))
  unfold column greatest
  pointwise [k0_pay15]
  simp only [minus_infinity]

/-- The body's scaled weights of such a column are its shares. -/
theorem body_share (w : FVec Ideal S64x2048 .f32) (t : Fin 2048) (v : Column) (hfin : ∀ e, Finite (v e)) (hw : column w t = softmax v) (r : Fin 8) :
    scaled (pickedTops w) (ix2 r t) = share (softmax v) r := by
  have habove : ∀ e, ⊥ < w (ix2 e t) := fun e => by
    have := softmax_above v hfin e
    rwa [← hw] at this
  have hbest : ∀ s, pickedTops w (ix2 s t) = best (softmax v) s := fun s => by
    rw [pickedTops_apply w t habove s, ← hw]
    rfl
  rw [scaled_apply, hbest, Finset.sum_congr rfl fun s _ => hbest s, mul_reciprocal _ _ (best_sum_ne_zero v hfin)]
  rfl

variable (m : (l : Loc nD τ sig) → Buf (Elt Ideal) l) (c : Dev nD)

/-- A token's logits, of the arrays the kernel is run on. -/
def kerLogits (s : Fin 8192) : Column :=
  fun e => (∑ k ∈ Finset.range 4096, partOf m c e s k) + (V m c main_v2 : FVec Ideal S64x1 .f32) (ix2 e 0)

/-- A group's last point computes its weights from the accumulator it leaves. -/
theorem last_point (t : Fin cfg0.N) (h2 : t.val % 8 = 7) :
    (outsAt0 m c t.val t.isLt).1 = k0_pay15 (outsAt0 m c t.val t.isLt).2.2.2.2 (iblk m c 3 t)
    ∧ (outsAt0 m c t.val t.isLt).2.1 = pickedRows (k0_pay15 (outsAt0 m c t.val t.isLt).2.2.2.2 (iblk m c 3 t))
    ∧ (outsAt0 m c t.val t.isLt).2.2.1 = scaled (pickedTops (k0_pay15 (outsAt0 m c t.val t.isLt).2.2.2.2 (iblk m c 3 t))) := by
  rw [acc_next m c t (by omega), outsAt0_C m c t (by omega) (by omega) h2]
  dsimp only
  exact ⟨last_softmax c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) _ _ _ _ _ _ _ _ _ _,
    last_rows c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) _ _ _ _ _ _ _ _ _ _,
    last_weights c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) _ _ _ _ _ _ _ _ _ _⟩

/-- The weights a group's last point computes are its tokens' routing weights. -/
theorem last_columns (hfin : ∀ s e, Finite (kerLogits m c s e)) (t : Fin cfg0.N) (h2 : t.val % 8 = 7) (s : Fin 2048) :
    column (k0_pay15 (outsAt0 m c t.val t.isLt).2.2.2.2 (iblk m c 3 t)) s = softmax (kerLogits m c (tokenAt t.val t.isLt s)) :=
  body_softmax _ _ _ _ (fun e => by
    rw [acc_held, h2]
    exact congrArg (fun a => (∑ k ∈ Finset.range 4096, partOf m c e (tokenAt t.val t.isLt s) k) + a) (block_b2 m c t e)) (hfin _)

/-- The routing weights, one column for each token. -/
def weightsArray : FVec Ideal S64x8192 .f32 := fun y => softmax (kerLogits m c (y 1)) (y 0)

/-- The positions of each token's eight greatest weights. -/
def positionsArray : IVec S8x8192 32 := fun y => BitVec.ofNat 32 (chosen (softmax (kerLogits m c (y 1))) (y 0).val).val

/-- Each token's eight greatest weights divided by their sum. -/
def sharesArray : FVec Ideal S8x8192 .f32 := fun y => share (softmax (kerLogits m c (y 1))) (y 0)

/-- Where a point's block of the first result lies. -/
theorem place4 (t : Fin cfg0.N) (e : Fin 64) (s : Fin 2048) :
    ((cfg0.win 4).blk t).view.emb (ix2 (n0 := 64) (n1 := 2048) e s) = ix2 (n0 := 64) (n1 := 8192) e (tokenAt t.val t.isLt s) := by
  obtain ⟨-, -, -, -, ⟨e0, e1⟩, -⟩ := block_starts t
  funext a
  apply Fin.ext
  match a with
  | ⟨0, _⟩ => show win0_4.index t 0 * 64 + 1 * e.val = e.val; rw [e0]; omega
  | ⟨1, _⟩ => show win0_4.index t 1 * 2048 + 1 * s.val = 2048 * (t.val / 8) + s.val; rw [e1]; omega

/-- Where a point's block of the second result lies. -/
theorem place5 (t : Fin cfg0.N) (r : Fin 8) (s : Fin 2048) :
    ((cfg0.win 5).blk t).view.emb (ix2 (n0 := 8) (n1 := 2048) r s) = ix2 (n0 := 8) (n1 := 8192) r (tokenAt t.val t.isLt s) := by
  obtain ⟨-, -, -, -, -, ⟨e0, e1⟩, -⟩ := block_starts t
  funext a
  apply Fin.ext
  match a with
  | ⟨0, _⟩ => show win0_5.index t 0 * 8 + 1 * r.val = r.val; rw [e0]; omega
  | ⟨1, _⟩ => show win0_5.index t 1 * 2048 + 1 * s.val = 2048 * (t.val / 8) + s.val; rw [e1]; omega

/-- Where a point's block of the third result lies. -/
theorem place6 (t : Fin cfg0.N) (r : Fin 8) (s : Fin 2048) :
    ((cfg0.win 6).blk t).view.emb (ix2 (n0 := 8) (n1 := 2048) r s) = ix2 (n0 := 8) (n1 := 8192) r (tokenAt t.val t.isLt s) := by
  obtain ⟨-, -, -, -, -, -, e0, e1⟩ := block_starts t
  funext a
  apply Fin.ext
  match a with
  | ⟨0, _⟩ => show win0_6.index t 0 * 8 + 1 * r.val = r.val; rw [e0]; omega
  | ⟨1, _⟩ => show win0_6.index t 1 * 2048 + 1 * s.val = 2048 * (t.val / 8) + s.val; rw [e1]; omega

/-- Every token belongs to a group, whose last point is a point of the grid. -/
theorem last_of (s : Fin 8192) : ∃ (t : Fin cfg0.N) (u : Fin 2048), t.val % 8 = 7 ∧ tokenAt t.val t.isLt u = s := by
  have hN : cfg0.N = 32 := N_0
  refine ⟨⟨8 * (s.val / 2048) + 7, by omega⟩, ⟨s.val % 2048, Nat.mod_lt _ (by decide)⟩, by dsimp only; omega, Fin.ext ?_⟩
  show 2048 * ((8 * (s.val / 2048) + 7) / 8) + s.val % 2048 = s.val
  omega

/-- The first result array after the region. -/
theorem final4 (hfin : ∀ s e, Finite (kerLogits m c s e)) : (dats m 0 c).arrAt 4 cfg0.N = weightsArray m c := by
  refine (dats m 0 c).arrAt_eq_of_cover 4 (weightsArray m c) (fun t hf => ?_) fun y => ?_
  · have h2 := (flush0_4 t).mp hf
    show (cfg0.win 4).cut (grid0.coords t) ((dats m 0 c).after 4 t) = _
    rw [after0_4, (last_point m c t h2).1]
    funext j
    obtain ⟨e, s, rfl⟩ : ∃ (e : Fin 64) (s : Fin 2048), j = ix2 e s := ⟨j 0, j 1, by funext a; fin_cases a <;> rfl⟩
    refine (congrFun (last_columns m c hfin t h2 s) e).trans ?_
    show _ = weightsArray m c (((cfg0.win 4).blk t).view.emb (ix2 e s))
    rw [place4]
    rfl
  · obtain ⟨r, s, rfl⟩ : ∃ (r : Fin 64) (s : Fin 8192), y = ix2 r s := ⟨y 0, y 1, by funext a; fin_cases a <;> rfl⟩
    obtain ⟨t, u, h2, rfl⟩ := last_of s
    exact ⟨t, (flush0_4 t).mpr h2, place4 t r u ▸ ((cfg0.win 4).blk t).view.emb_mem_set (ix2 (n0 := 64) (n1 := 2048) r u)⟩

/-- The second result array after the region. -/
theorem final5 (hfin : ∀ s e, Finite (kerLogits m c s e)) : (dats m 0 c).arrAt 5 cfg0.N = positionsArray m c := by
  refine (dats m 0 c).arrAt_eq_of_cover 5 (positionsArray m c) (fun t hf => ?_) fun y => ?_
  · have h2 := (flush0_5 t).mp hf
    show (cfg0.win 5).cut (grid0.coords t) ((dats m 0 c).after 5 t) = _
    rw [after0_5, (last_point m c t h2).2.1]
    funext j
    obtain ⟨r, s, rfl⟩ : ∃ (r : Fin 8) (s : Fin 2048), j = ix2 r s := ⟨j 0, j 1, by funext a; fin_cases a <;> rfl⟩
    refine (pickedRows_apply _ r s).trans ?_
    rw [last_columns m c hfin t h2 s]
    show _ = positionsArray m c (((cfg0.win 5).blk t).view.emb (ix2 r s))
    rw [place5]
    rfl
  · obtain ⟨r, s, rfl⟩ : ∃ (r : Fin 8) (s : Fin 8192), y = ix2 r s := ⟨y 0, y 1, by funext a; fin_cases a <;> rfl⟩
    obtain ⟨t, u, h2, rfl⟩ := last_of s
    exact ⟨t, (flush0_5 t).mpr h2, place5 t r u ▸ ((cfg0.win 5).blk t).view.emb_mem_set (ix2 (n0 := 8) (n1 := 2048) r u)⟩

/-- The third result array after the region. -/
theorem final6 (hfin : ∀ s e, Finite (kerLogits m c s e)) : (dats m 0 c).arrAt 6 cfg0.N = sharesArray m c := by
  refine (dats m 0 c).arrAt_eq_of_cover 6 (sharesArray m c) (fun t hf => ?_) fun y => ?_
  · have h2 := (flush0_6 t).mp hf
    show (cfg0.win 6).cut (grid0.coords t) ((dats m 0 c).after 6 t) = _
    rw [after0_6, (last_point m c t h2).2.2]
    funext j
    obtain ⟨r, s, rfl⟩ : ∃ (r : Fin 8) (s : Fin 2048), j = ix2 r s := ⟨j 0, j 1, by funext a; fin_cases a <;> rfl⟩
    refine (body_share _ s _ (hfin _) (last_columns m c hfin t h2 s) r).trans ?_
    show _ = sharesArray m c (((cfg0.win 6).blk t).view.emb (ix2 r s))
    rw [place6]
    rfl
  · obtain ⟨r, s, rfl⟩ : ∃ (r : Fin 8) (s : Fin 8192), y = ix2 r s := ⟨y 0, y 1, by funext a; fin_cases a <;> rfl⟩
    obtain ⟨t, u, h2, rfl⟩ := last_of s
    exact ⟨t, (flush0_6 t).mpr h2, place6 t r u ▸ ((cfg0.win 6).blk t).view.emb_mem_set (ix2 (n0 := 8) (n1 := 2048) r u)⟩

end Cert.Router
end
-- ==== Proof.Host.lean ====
/-
  THE HOST OPERATIONS AROUND THE KERNEL.
  Before it three arguments are reshaped. After it each result is transposed and reshaped to [4, 2048, ·].
-/
module

public import proofs.«01_k».proof.Proof.Arrays
public import Idealize.ShloMosaic.Lib.StableHlo.Run

@[expose] public section

set_option maxRecDepth 16384

noncomputable section
namespace Cert.Router
open Idealize.ShloMosaic Idealize.ShloMosaic.TcCoe Idealize.SL.Sem
open Cert.KernelIdeal Cert.KernelIdeal.Gen

variable (m : (l : Loc nD τ sig) → Buf (Elt Ideal) l) (c : Dev nD)

/-- The token array the kernel reads is the first argument reshaped. -/
theorem entry_tokens : (V m c main_v0 : FVec Ideal S8192x4096 .f32)
    = shapeCast S8192x4096 (m ((c.tc : Thread nD τ).loc main_arg0) : FVec Ideal S4x2048x4096 .f32) shapeCasts_S4x2048x4096_S8192x4096 := by
  show StableHlo.after (List.flatten [hostOps0]) _ _ = _
  simp only [hostOps0, List.flatten_cons, List.flatten_nil, List.append_nil]
  after_results
  rfl

/-- The first offsets the kernel reads are the third argument reshaped. -/
theorem entry_b1 : (V m c main_v1 : FVec Ideal S1x4096 .f32)
    = shapeCast S1x4096 (m ((c.tc : Thread nD τ).loc main_arg2) : FVec Ideal S4096 .f32) shapeCasts_S4096_S1x4096 := by
  show StableHlo.after (List.flatten [hostOps0]) _ _ = _
  simp only [hostOps0, List.flatten_cons, List.flatten_nil, List.append_nil]
  after_results
  rfl

/-- The second offsets the kernel reads are the fifth argument reshaped. -/
theorem entry_b2 : (V m c main_v2 : FVec Ideal S64x1 .f32)
    = shapeCast S64x1 (m ((c.tc : Thread nD τ).loc main_arg4) : FVec Ideal S64 .f32) shapeCasts_S64_S64x1 := by
  show StableHlo.after (List.flatten [hostOps0]) _ _ = _
  simp only [hostOps0, List.flatten_cons, List.flatten_nil, List.append_nil]
  after_results
  rfl

/-- Token `s` of batch row `b`, among all tokens. -/
def flat (b : Fin 4) (s : Fin 2048) : Fin 8192 := ⟨2048 * b.val + s.val, by omega⟩

/-- Reshaping [4, 2048, n] to [8192, n] joins the first two axes. -/
theorem joined {α : Type} (n : Nat) (x : (⟨3, ![4, 2048, n]⟩ : Shape).Idx → α) (h : (⟨3, ![4, 2048, n]⟩ : Shape).ShapeCasts ⟨2, ![8192, n]⟩)
    (b : Fin 4) (s : Fin 2048) (d : Fin n) : shapeCast ⟨2, ![8192, n]⟩ x h (ix2 (flat b s) d) = x (ix3 b s d) :=
  shapeCast_apply x h _ _ (by
    rw [Shape.rowMajor_val_three, Shape.rowMajor_val_two]
    show (b.val * 2048 + s.val) * n + d.val = (2048 * b.val + s.val) * n + d.val
    rw [Nat.mul_comm b.val])

/-- Reshaping [8192, n] to [4, 2048, n] splits the first axis. -/
theorem split {α : Type} (n : Nat) (x : (⟨2, ![8192, n]⟩ : Shape).Idx → α) (h : (⟨2, ![8192, n]⟩ : Shape).ShapeCasts ⟨3, ![4, 2048, n]⟩)
    (b : Fin 4) (s : Fin 2048) (d : Fin n) : shapeCast ⟨3, ![4, 2048, n]⟩ x h (ix3 b s d) = x (ix2 (flat b s) d) :=
  shapeCast_apply x h _ _ (by
    rw [Shape.rowMajor_val_three, Shape.rowMajor_val_two]
    show (2048 * b.val + s.val) * n + d.val = (b.val * 2048 + s.val) * n + d.val
    rw [Nat.mul_comm b.val])

/-- The token array at a token. -/
theorem entry_tokens_apply (b : Fin 4) (s : Fin 2048) (d : Fin 4096) :
    (V m c main_v0 : FVec Ideal S8192x4096 .f32) (ix2 (flat b s) d) = (m ((c.tc : Thread nD τ).loc main_arg0) : FVec Ideal S4x2048x4096 .f32) (ix3 b s d) := by
  rw [entry_tokens]
  exact joined 4096 _ _ b s d

/-- The first offsets at a hidden unit. -/
theorem entry_b1_apply (k : Fin 4096) :
    (V m c main_v1 : FVec Ideal S1x4096 .f32) (ix2 0 k) = (m ((c.tc : Thread nD τ).loc main_arg2) : FVec Ideal S4096 .f32) (ix1 k) := by
  rw [entry_b1]
  refine shapeCast_apply _ _ _ _ ((Shape.rowMajor_val_one _).trans (Eq.trans ?_ (Shape.rowMajor_val_two _).symm))
  show k.val = 0 * 4096 + k.val
  omega

/-- The second offsets at an expert. -/
theorem entry_b2_apply (e : Fin 64) :
    (V m c main_v2 : FVec Ideal S64x1 .f32) (ix2 e 0) = (m ((c.tc : Thread nD τ).loc main_arg4) : FVec Ideal S64 .f32) (ix1 e) := by
  rw [entry_b2]
  refine shapeCast_apply _ _ _ _ ((Shape.rowMajor_val_one _).trans (Eq.trans ?_ (Shape.rowMajor_val_two _).symm))
  show e.val = e.val * 1 + 0
  omega

/-- A token's logits, of the kernel's arguments. -/
def argLogits (b : Fin 4) (s : Fin 2048) : Column :=
  logits (fun d => (m ((c.tc : Thread nD τ).loc main_arg0) : FVec Ideal S4x2048x4096 .f32) (ix3 b s d))
    (fun k d => (m ((c.tc : Thread nD τ).loc main_arg1) : FVec Ideal S4096x4096 .f32) (ix2 k d))
    (fun k => (m ((c.tc : Thread nD τ).loc main_arg2) : FVec Ideal S4096 .f32) (ix1 k))
    (fun e k => (m ((c.tc : Thread nD τ).loc main_arg3) : FVec Ideal S64x4096 .f32) (ix2 e k))
    (fun e => (m ((c.tc : Thread nD τ).loc main_arg4) : FVec Ideal S64 .f32) (ix1 e))

/-- The logits the kernel works with are those of its arguments. -/
theorem kerLogits_eq (b : Fin 4) (s : Fin 2048) : kerLogits m c (flat b s) = argLogits m c b s := by
  funext e
  unfold kerLogits argLogits logits
  rw [entry_b2_apply, Finset.sum_range]
  refine congrArg (· + _) (Finset.sum_congr rfl fun k _ => ?_)
  rw [partOf, part, dif_pos k.isLt, mul_comm, V_main_arg1, V_main_arg3]
  refine congrArg (fun a => max a (0 : EReal) * _) ?_
  exact congrArg₂ (· + ·) (Finset.sum_congr rfl fun d _ => congrArg (· * _) (entry_tokens_apply m c b s d)) (entry_b1_apply m c k)

/-- Every token is some batch row's. -/
theorem flat_surjective (s : Fin 8192) : ∃ b u, flat b u = s :=
  ⟨⟨s.val / 2048, by omega⟩, ⟨s.val % 2048, Nat.mod_lt _ (by decide)⟩, Fin.ext (by show 2048 * (s.val / 2048) + s.val % 2048 = s.val; omega)⟩

/-- Finite logits of the arguments are finite logits in the kernel. -/
theorem kerLogits_finite (h : ∀ b s e, Finite (argLogits m c b s e)) (s : Fin 8192) (e : Fin 64) : Finite (kerLogits m c s e) := by
  obtain ⟨b, u, rfl⟩ := flat_surjective s
  rw [kerLogits_eq]
  exact h b u e

/-- The first result is the first array transposed and reshaped. -/
theorem exit_weights : (Pipeline.afterTail₀ cfgs (dats m) 0 (V0 m) [hostOps1] c main_v5 : FVec Ideal S4x2048x64 .f32)
    = shapeCast S4x2048x64 (transpose S8192x64 [1, 0] ((dats m 0 c).arrAt 4 cfg0.N : FVec Ideal S64x8192 .f32) transposes_S64x8192_S8192x64_1_0) shapeCasts_S8192x64_S4x2048x64 := by
  have h := Pipeline.withArrays_arr spec0 (by decide) c (V0 m c) (fun w => (dats m 0 c).arrAt w cfg0.N) 4
  unfold Pipeline.afterTail₀
  simp only [hostOps1, List.flatten_cons, List.flatten_nil, List.append_nil]
  after_results
  rw [← h]
  rfl

/-- The second result is the second array transposed and reshaped. -/
theorem exit_positions : (Pipeline.afterTail₀ cfgs (dats m) 0 (V0 m) [hostOps1] c main_v7 : IVec S4x2048x8 32)
    = shapeCast S4x2048x8 (transpose S8192x8 [1, 0] ((dats m 0 c).arrAt 5 cfg0.N : IVec S8x8192 32) transposes_S8x8192_S8192x8_1_0) shapeCasts_S8192x8_S4x2048x8 := by
  have h := Pipeline.withArrays_arr spec0 (by decide) c (V0 m c) (fun w => (dats m 0 c).arrAt w cfg0.N) 5
  unfold Pipeline.afterTail₀
  simp only [hostOps1, List.flatten_cons, List.flatten_nil, List.append_nil]
  after_results
  rw [← h]
  rfl

/-- The third result is the third array transposed and reshaped. -/
theorem exit_shares : (Pipeline.afterTail₀ cfgs (dats m) 0 (V0 m) [hostOps1] c main_v9 : FVec Ideal S4x2048x8 .f32)
    = shapeCast S4x2048x8 (transpose S8192x8 [1, 0] ((dats m 0 c).arrAt 6 cfg0.N : FVec Ideal S8x8192 .f32) transposes_S8x8192_S8192x8_1_0) shapeCasts_S8192x8_S4x2048x8 := by
  have h := Pipeline.withArrays_arr spec0 (by decide) c (V0 m c) (fun w => (dats m 0 c).arrAt w cfg0.N) 6
  unfold Pipeline.afterTail₀
  simp only [hostOps1, List.flatten_cons, List.flatten_nil, List.append_nil]
  after_results
  rw [← h]
  rfl

/-- Transposing swaps the coordinates. -/
theorem swapped {α : Type} (p q : Nat) (x : (⟨2, ![p, q]⟩ : Shape).Idx → α) (h : (⟨2, ![p, q]⟩ : Shape).Transposes [1, 0] ⟨2, ![q, p]⟩)
    (a : Fin p) (b : Fin q) : transpose ⟨2, ![q, p]⟩ [1, 0] x h (ix2 b a) = x (ix2 a b) :=
  transpose_apply _ x h _ _ (fun k => by
    match k with
    | ⟨0, _⟩ => rfl
    | ⟨1, _⟩ => rfl)

variable (hfin : ∀ b s e, Finite (argLogits m c b s e)) (b : Fin 4) (s : Fin 2048)
include hfin

/-- The kernel's first result: each token's routing weights. -/
theorem result_weights (e : Fin 64) :
    (Pipeline.afterTail₀ cfgs (dats m) 0 (V0 m) [hostOps1] c main_v5 : FVec Ideal S4x2048x64 .f32) (ix3 b s e) = softmax (argLogits m c b s) e := by
  rw [exit_weights, final4 m c (kerLogits_finite m c hfin), ← kerLogits_eq]
  exact (split 64 _ _ b s e).trans (swapped 64 8192 _ _ e (flat b s))

/-- The kernel's second result: the positions of each token's eight greatest weights. -/
theorem result_positions (r : Fin 8) :
    (Pipeline.afterTail₀ cfgs (dats m) 0 (V0 m) [hostOps1] c main_v7 : IVec S4x2048x8 32) (ix3 b s r)
      = BitVec.ofNat 32 (chosen (softmax (argLogits m c b s)) r.val).val := by
  rw [exit_positions, final5 m c (kerLogits_finite m c hfin), ← kerLogits_eq]
  exact (split 8 _ _ b s r).trans (swapped 8 8192 _ _ r (flat b s))

/-- The kernel's third result: those eight weights divided by their sum. -/
theorem result_shares (r : Fin 8) :
    (Pipeline.afterTail₀ cfgs (dats m) 0 (V0 m) [hostOps1] c main_v9 : FVec Ideal S4x2048x8 .f32) (ix3 b s r)
      = share (softmax (argLogits m c b s)) r := by
  rw [exit_shares, final6 m c (kerLogits_finite m c hfin), ← kerLogits_eq]
  exact (split 8 _ _ b s r).trans (swapped 8 8192 _ _ r (flat b s))

end Cert.Router
end
-- ==== Proof.Finiteness.lean ====
/-
  WHAT THE PRECONDITION SAYS.
  Each argument is compared with infinity, element by element; all ones means that no element is an infinity.
-/
module

public import proofs.«01_k».proof.Defs
public import proofs.«01_k».proof.Proof.Host

@[expose] public section

set_option maxRecDepth 16384

noncomputable section
namespace Cert.Router
open Idealize.ShloMosaic Idealize.ShloMosaic.TcCoe Idealize.SL.Sem
open Cert.KernelIdeal Cert.KernelIdeal.Gen

/-- A number fills an array of any of the five argument shapes. -/
theorem finite_facts : Cert.Pre_finite_arguments.Facts := ⟨by decide, by decide, by decide, by decide, by decide⟩

/-- The word of plus infinity is the greatest number. -/
theorem plus_infinity : Ideal.ofBits .f32 0x7F800000#32 = ⊤ := by
  simp [Ideal.ofBits, Ideal.ieee]

/-- A number whose magnitude is below infinity is finite. -/
theorem finite_of_magnitude (a : EReal) (h : max a (-a) < ⊤) : Finite a := by
  induction a with
  | bot => simp at h
  | coe r => exact ⟨r, rfl⟩
  | top => simp at h

/-- An array whose magnitudes all compare below infinity holds finite numbers only. -/
theorem finite_of_compare {S : Shape} (x : FVec Ideal S .f32) (hb : (⟨0, ![]⟩ : Shape).BroadcastsInDim S (![] : Fin 0 → Fin S.rank))
    (h : cmpf .olt (Host.absf x) (broadcastInDim S ![] hb (constant ⟨0, ![]⟩ .f32 0x7F800000#32)) = fun _ => 1#1) (i : S.Idx) : Finite (x i) := by
  have hi : BitVec.ofBool (decide (max (x i) (-(x i)) < Ideal.ofBits .f32 0x7F800000#32)) = 1#1 := congrFun h i
  rw [plus_infinity] at hi
  refine finite_of_magnitude _ (of_decide_eq_true ?_)
  cases hd : decide (max (x i) (-(x i)) < ⊤)
  · rw [hd] at hi
    exact absurd hi (by decide)
  · rfl

/-- Under the precondition every logit is finite. -/
theorem argLogits_finite (m : (l : Loc nD τ sig) → Buf (Elt Ideal) l) (h : Cert.Pre_KernelIdeal_finite_arguments (hPre_finite_arguments := finite_facts) m)
    (c : Dev nD) (b : Fin 4) (s : Fin 2048) (e : Fin 64) : Finite (argLogits m c b s e) := by
  obtain ⟨h0, h1, h2, h3, h4⟩ := h c
  exact logits_finite _ _ _ _ _ (fun d => finite_of_compare _ _ h0 (ix3 b s d)) (fun k d => finite_of_compare _ _ h1 (ix2 k d))
    (fun k => finite_of_compare _ _ h2 (ix1 k)) (fun e k => finite_of_compare _ _ h3 (ix2 e k)) (fun e => finite_of_compare _ _ h4 (ix1 e)) e

end Cert.Router
end
-- ==== Proof.Reference.lean ====
/-
  WHAT THE REFERENCE COMPUTES.
  Its three results read at an index: a token's routing weights, the positions of its eight greatest, and those eight
  divided by their sum.
-/
module

public import proofs.«01_k».proof.Proof.Softmax
public import proofs.«01_k».proof.Proof.Rounds
public import proofs.«01_k».proof.Proof.Gen.ReferenceIdeal.Run
public import Idealize.ShloMosaic.Lib.Pointwise

@[expose] public section

set_option maxRecDepth 16384

noncomputable section
namespace Cert.Router
open Idealize.ShloMosaic Idealize.ShloMosaic.TcCoe Idealize.SL.Sem
open Cert.ReferenceIdeal Cert.ReferenceIdeal.Gen

/-- A token's 64 entries of a [4, 2048, 64] array. -/
def entries (w : FVec Ideal S4x2048x64 .f32) (b : Fin 4) (s : Fin 2048) : Column := fun e => w (ix3 b s e)

/-- Moving along the last axis changes the last coordinate alone. -/
theorem along_last (j : S4x2048x64.Idx) (hd : 2 < S4x2048x64.rank) (k : Fin 64) : j.along (⟨2, hd⟩ : Fin S4x2048x64.rank) k = ix3 (n0 := 4) (n1 := 2048) (n2 := 64) (j 0) (j 1) k := by
  funext a
  match a with
  | ⟨0, _⟩ => rfl
  | ⟨1, _⟩ => rfl
  | ⟨2, _⟩ => rfl

/-- The order the reference sorts by is "greater". -/
theorem greater (x y : EReal) : (FloatOps.cmpfTotal (F := Ideal) (φ := .f32) .gt x y == 1#1) = decide (y < x) := by
  show (BitVec.ofBool (decide (x > y)) == 1#1) = decide (y < x)
  by_cases h : y < x <;> simp [h]

/-- The sort puts at rank `r` the position that round `r` picks. -/
theorem sorted_position (w : FVec Ideal S4x2048x64 .f32) (b : Fin 4) (s : Fin 2048) (hw : ∀ e, ⊥ < entries w b s e) (r : Fin 8) (J : S4x2048x64.Idx)
    (hJ : J = ix3 b s (r.castLE (by decide))) (hd : 2 < S4x2048x64.rank) :
    sortedFrom (fun k k' => FloatOps.cmpfTotal (F := Ideal) (φ := .f32) .gt (w (J.along ⟨2, hd⟩ k)) (w (J.along ⟨2, hd⟩ k')) == 1#1) (J ⟨2, hd⟩)
      = chosen (entries w b s) r.val := by
  subst hJ
  refine Eq.trans ?_ (sortedFrom_eq_chosen (entries w b s) hw r)
  refine congrArg (fun f : Fin 64 → Fin 64 → Bool => sortedFrom f (r.castLE (by decide))) (funext fun p => funext fun q => ?_)
  rw [greater]
  exact congrArg₂ (fun x y : EReal => decide (x < y)) (congrArg w (along_last _ hd q)) (congrArg w (along_last _ hd p))

/-- The values of the eight greatest. -/
theorem top_values (w : FVec Ideal S4x2048x64 .f32) (h : S4x2048x64.Slices (fun _ => 0) S4x2048x8) (b : Fin 4) (s : Fin 2048)
    (hw : ∀ e, ⊥ < entries w b s e) (r : Fin 8) :
    (Host.topK S4x2048x8 2 (FloatOps.cmpfTotal (F := Ideal) (φ := .f32) .gt) w h).1 (ix3 b s r) = best (entries w b s) r := by
  unfold Host.topK Host.sort2
  dsimp only
  rw [dif_pos (by decide : 2 < S4x2048x64.rank)]
  unfold extractStridedSlice
  dsimp only
  rw [sorted_position w b s hw r _ (by
    funext a
    refine Fin.ext ((Nat.zero_add _).trans ?_)
    match a with
    | ⟨0, _⟩ => rfl
    | ⟨1, _⟩ => rfl
    | ⟨2, _⟩ => rfl), along_last]
  refine congrArg w ?_
  funext a
  match a with
  | ⟨0, _⟩ => exact Fin.ext (Nat.zero_add _)
  | ⟨1, _⟩ => exact Fin.ext (Nat.zero_add _)
  | ⟨2, _⟩ => rfl

/-- The positions of the eight greatest. -/
theorem top_positions (w : FVec Ideal S4x2048x64 .f32) (h : S4x2048x64.Slices (fun _ => 0) S4x2048x8) (b : Fin 4) (s : Fin 2048)
    (hw : ∀ e, ⊥ < entries w b s e) (r : Fin 8) :
    (Host.topK S4x2048x8 2 (FloatOps.cmpfTotal (F := Ideal) (φ := .f32) .gt) w h).2 (ix3 b s r) = BitVec.ofNat 32 (chosen (entries w b s) r.val).val := by
  unfold Host.topK Host.sort2
  dsimp only
  rw [dif_pos (by decide : 2 < S4x2048x64.rank)]
  unfold extractStridedSlice
  dsimp only
  rw [sorted_position w b s hw r _ (by
    funext a
    refine Fin.ext ((Nat.zero_add _).trans ?_)
    match a with
    | ⟨0, _⟩ => rfl
    | ⟨1, _⟩ => rfl
    | ⟨2, _⟩ => rfl), along_last]
  rfl

variable (m : (l : Loc nD τ sig) → Buf (Elt Ideal) l) (c : Dev nD)

/-- A token's logits, of the reference's arguments. -/
def refLogits (b : Fin 4) (s : Fin 2048) : Column :=
  logits (fun d => (m ((c.tc : Thread nD τ).loc main_arg0) : FVec Ideal S4x2048x4096 .f32) (ix3 b s d))
    (fun k d => (m ((c.tc : Thread nD τ).loc main_arg1) : FVec Ideal S4096x4096 .f32) (ix2 k d))
    (fun k => (m ((c.tc : Thread nD τ).loc main_arg2) : FVec Ideal S4096 .f32) (ix1 k))
    (fun e k => (m ((c.tc : Thread nD τ).loc main_arg3) : FVec Ideal S64x4096 .f32) (ix2 e k))
    (fun e => (m ((c.tc : Thread nD τ).loc main_arg4) : FVec Ideal S64 .f32) (ix1 e))

/-- The first result: the routing weights. -/
theorem ref_softmax (b : Fin 4) (s : Fin 2048) (e : Fin 64) :
    (Cert.ReferenceIdeal.Value.res_main_v24 m c : FVec Ideal S4x2048x64 .f32) (ix3 b s e) = softmax (refLogits m c b s) e := by
  unfold softmax greatest refLogits logits
  pointwise [Cert.ReferenceIdeal.Value.res_main_v24]
  simp only [minus_infinity, div_one, bot_le, max_eq_right]

/-- The second result: the positions of the eight greatest weights. -/
theorem ref_positions (b : Fin 4) (s : Fin 2048) (hv : ∀ e, Finite (refLogits m c b s e)) (r : Fin 8) :
    (Cert.ReferenceIdeal.Value.res_main_indices m c : IVec S4x2048x8 32) (ix3 b s r) = BitVec.ofNat 32 (chosen (softmax (refLogits m c b s)) r.val).val := by
  have hcol : entries (Cert.ReferenceIdeal.Value.res_main_v24 m c) b s = softmax (refLogits m c b s) := funext fun e => ref_softmax m c b s e
  have h := top_positions (Cert.ReferenceIdeal.Value.res_main_v24 m c) sliceFits_S4x2048x64_S4x2048x8 b s
    (by rw [hcol]; exact softmax_above _ hv) r
  rw [hcol] at h
  exact h

/-- Dividing by the sum over the last axis. -/
theorem divided (T : FVec Ideal S4x2048x8 .f32) (b : Fin 4) (s : Fin 2048) (r : Fin 8) :
    Host.divf T (broadcastInDim S4x2048x8 ![0, 1, 2] bcast_S4x2048x1_S4x2048x8_0_1_2 (broadcastInDim S4x2048x1 ![0, 1] bcast_S4x2048_S4x2048x1_0_1
        (Host.reduceAdd T (constant S_ .f32 0x00000000#32) reducesTo_S4x2048x8_S4x2048_d2 h_S_))) (ix3 b s r)
      = Ideal.div (T (ix3 b s r)) (∑ q : Fin 8, T (ix3 b s q)) := by
  pointwise []

/-- The third result: the eight greatest weights divided by their sum. -/
theorem ref_shares (b : Fin 4) (s : Fin 2048) (hv : ∀ e, Finite (refLogits m c b s e)) (r : Fin 8) :
    (Cert.ReferenceIdeal.Value.res_main_v28 m c : FVec Ideal S4x2048x8 .f32) (ix3 b s r) = share (softmax (refLogits m c b s)) r := by
  have hcol : entries (Cert.ReferenceIdeal.Value.res_main_v24 m c) b s = softmax (refLogits m c b s) := funext fun e => ref_softmax m c b s e
  have h := top_values (Cert.ReferenceIdeal.Value.res_main_v24 m c) sliceFits_S4x2048x64_S4x2048x8 b s (by rw [hcol]; exact softmax_above _ hv)
  rw [hcol] at h
  refine (divided (Host.topK S4x2048x8 2 (FloatOps.cmpfTotal (F := Ideal) (φ := .f32) .gt) (Cert.ReferenceIdeal.Value.res_main_v24 m c) sliceFits_S4x2048x64_S4x2048x8).1 b s r).trans ?_
  rw [h, Finset.sum_congr rfl fun q _ => h q]
  rfl

end Cert.Router
end
-- ==== Proof.Equation.lean ====
/-
  THE EQUATION.
  From equal finite arguments, the kernel's three results are the reference's.
-/
module

public import proofs.«01_k».proof.Defs
public import proofs.«01_k».proof.Proof.Finiteness
public import proofs.«01_k».proof.Proof.Reference
public import Idealize.ShloMosaic.Lib.Claim

@[expose] public section

set_option maxRecDepth 16384

noncomputable section
namespace Cert.Router
open Idealize.ShloMosaic Idealize.ShloMosaic.TcCoe Idealize.SL.Sem
open Cert.KernelIdeal Cert.KernelIdeal.Gen

/-- What a buffer of the kernel holds when the program ends. -/
def final (m : (l : Loc nD τ sig) → Buf (Elt Ideal) l) (c : Dev nD) (b : Ref sig .tc) : Buf (Elt Ideal) ((c.tc : Thread nD τ).loc b) :=
  Pipeline.afterTail₀ cfgs (dats m) 0 (V0 m) [hostOps1] c b

/-- The kernel ends with its three results at their final contents and its arguments unchanged. -/
theorem kernel_run (m : (l : Loc nD τ sig) → Buf (Elt Ideal) l) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = final m c main_v5
      ∧ r.2.mem ((c.tc : Thread nD τ).loc main_v7) = final m c main_v7
      ∧ r.2.mem ((c.tc : Thread nD τ).loc main_v9) = final m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).2 main_v5 (Pipeline.mem_restRefs_of main_v5 (by decide) (by decide)),
    (h.1 c).2 main_v7 (Pipeline.mem_restRefs_of main_v7 (by decide) (by decide)),
    (h.1 c).2 main_v9 (Pipeline.mem_restRefs_of main_v9 (by decide) (by decide)), h.2 c⟩)
    (θ_run_and (run_main m ρ) (unchanged m ρ))

variable (m : (l : Loc nD τ sig) → Buf (Elt Ideal) l)
variable (m' : (l : Loc Cert.ReferenceIdeal.nD Cert.ReferenceIdeal.τ Cert.ReferenceIdeal.sig) → Buf (Elt Ideal) l)

/-- The two programs start from the same five arguments, on every device. -/
def SameArguments : Prop := ∀ c : Dev nD,
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)

/-- Equal arguments give equal logits. -/
theorem same_logits (h : SameArguments m m') (c : Dev nD) (b : Fin 4) (s : Fin 2048) : refLogits m' c b s = argLogits m c b s := by
  obtain ⟨h0, h1, h2, h3, h4⟩ := h c
  unfold refLogits argLogits
  rw [h0, h1, h2, h3, h4]

/-- Arrays [4, 2048, n] that agree at every row, token and position are equal. -/
theorem equal_arrays {α : Type} {n : Nat} (x y : (⟨3, ![4, 2048, n]⟩ : Shape).Idx → α) (h : ∀ b s e, x (ix3 b s e) = y (ix3 b s e)) : x = y := by
  funext j
  rw [eq_ix3 j]
  exact h _ _ _

variable (same : SameArguments m m') (hfin : ∀ c b s e, Finite (argLogits m c b s e)) (c : Dev nD)
include same hfin

/-- The routing weights agree. -/
theorem same_weights : (Cert.ReferenceIdeal.Value.res_main_v24 m' c : FVec Ideal S4x2048x64 .f32) = final m c main_v5 :=
  equal_arrays _ _ fun b s e => (ref_softmax m' c b s e).trans
    ((congrArg (fun l => softmax l e) (same_logits m m' same c b s)).trans (result_weights m c (hfin c) b s e).symm)

/-- The reference's logits are finite too. -/
theorem refLogits_finite (b : Fin 4) (s : Fin 2048) (e : Fin 64) : Finite (refLogits m' c b s e) := by
  rw [same_logits m m' same]
  exact hfin c b s e

/-- The chosen experts agree. -/
theorem same_positions : (Cert.ReferenceIdeal.Value.res_main_indices m' c : IVec S4x2048x8 32) = final m c main_v7 :=
  equal_arrays _ _ fun b s r => (ref_positions m' c b s (refLogits_finite m m' same hfin c b s) r).trans
    ((congrArg (fun l => BitVec.ofNat 32 (chosen (softmax l) r.val).val) (same_logits m m' same c b s)).trans (result_positions m c (hfin c) b s r).symm)

/-- The chosen experts' shares agree. -/
theorem same_shares : (Cert.ReferenceIdeal.Value.res_main_v28 m' c : FVec Ideal S4x2048x8 .f32) = final m c main_v9 :=
  equal_arrays _ _ fun b s r => (ref_shares m' c b s (refLogits_finite m m' same hfin c b s) r).trans
    ((congrArg (fun l => share (softmax l) r) (same_logits m m' same c b s)).trans (result_shares m c (hfin c) b s r).symm)

omit same hfin

/-- The idealised kernel and reference end with equal results, from equal finite arguments. -/
theorem equation : Cert.algebraic_KernelIdeal_ReferenceIdeal_pre_finite_arguments (hKernelIdeal := Cert.KernelIdeal.Gen.facts)
    (hReferenceIdeal := Cert.ReferenceIdeal.Gen.facts) (hPre_finite_arguments := finite_facts) := by
  intro m ρ m' ρ' hpre same
  have hfin := argLogits_finite m hpre
  refine ⟨fun c => final m c main_v5, fun c => final m c main_v7, fun c => final m c main_v9, kernel_run m ρ, ?_⟩
  exact (θ_run Cert.ReferenceIdeal.defs _ _).mono (fun _ h c =>
    ⟨(h c).1.trans (same_weights m m' same hfin c), (h c).2.1.trans (same_positions m m' same hfin c),
      (h c).2.2.1.trans (same_shares m m' same hfin c), (h c).2.2.2⟩) (Cert.ReferenceIdeal.Value.run m' ρ')

end Cert.Router
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three frames, the same two under the precondition, the preservation and the equation of all three results. -/
theorem claim : Cert.Claim := ⟨Cert.Kernel.Gen.facts, Cert.KernelIdeal.Gen.facts, Cert.ReferenceIdeal.Gen.facts, Cert.Router.finite_facts, by
  exact ⟨fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, Cert.Router.equation⟩⟩

end Cert.Proof

end
